-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1, 512]⟩ ⟨2, ![1, 16384]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![16384, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S512x256 : Shape := ⟨2, ![512, 256]⟩
abbrev S1x512 : Shape := ⟨2, ![1, 512]⟩
abbrev S1x1x512 : Shape := ⟨3, ![1, 1, 512]⟩
abbrev S32 : Shape := ⟨1, ![32]⟩
abbrev S1x32x1 : Shape := ⟨3, ![1, 32, 1]⟩
abbrev S1x32x512 : Shape := ⟨3, ![1, 32, 512]⟩
abbrev S_ : Shape := ⟨0, ![]⟩
abbrev S1x32 : Shape := ⟨2, ![1, 32]⟩

class Facts : Prop where
  shapeCasts_S1x512_S1x1x512 : S1x512.ShapeCasts S1x1x512
  bcast_S32_S1x32x1_1 : S32.BroadcastsInDim S1x32x1 (![1] : Fin 1 → Fin S1x32x1.rank)
  bcast_S1x1x512_S1x32x512_0_1_2 : S1x1x512.BroadcastsInDim S1x32x512 (![0, 1, 2] : Fin 3 → Fin S1x32x512.rank)
  bcast_S1x32x1_S1x32x512_0_1_2 : S1x32x1.BroadcastsInDim S1x32x512 (![0, 1, 2] : Fin 3 → Fin S1x32x512.rank)
  natLt_1_32 : 1 < 32
  reducesTo_S1x32x512_S1x32_d2 : S1x32x512.ReducesTo [2] S1x32
  h_S_ : 0 < S_.numel
  bcast_S_S1x32 : S_.BroadcastsInDim S1x32 (![] : Fin 0 → Fin S1x32.rank)

variable [Facts]

def fn {F : FTy → Type} [FloatOps F] (main_arg0 : FVec F S512x256 .f32) (main_arg1 : IVec S1x512 32) : IVec S1x32 1 :=
  let main_v0 : IVec S1x1x512 32 := shapeCast S1x1x512 main_arg1 shapeCasts_S1x512_S1x1x512
  let main_v1 : IVec S32 32 := iotaInDim S32 32 0
  let main_v2 : IVec S1x32x1 32 := broadcastInDim S1x32x1 ![1] bcast_S32_S1x32x1_1 main_v1
  let main_v3 : IVec S1x32x512 32 := broadcastInDim S1x32x512 ![0, 1, 2] bcast_S1x1x512_S1x32x512_0_1_2 main_v0
  let main_v4 : IVec S1x32x512 32 := broadcastInDim S1x32x512 ![0, 1, 2] bcast_S1x32x1_S1x32x512_0_1_2 main_v2
  let main_v5 : IVec S1x32x512 1 := cmpi .eq main_v3 main_v4
  let main_v6 : IVec S1x32x512 32 := (extui 32 · natLt_1_32) main_v5
  let main_c : IVec S_ 32 := constantI S_ 32 0#32
  let main_v7 : IVec S1x32 32 := (fun x v => Host.reduce IntOp.addi x v reducesTo_S1x32x512_S1x32_d2 h_S_) main_v6 main_c
  let main_c_0 : IVec S_ 32 := constantI S_ 32 31#32
  let main_v8 : IVec S1x32 32 := broadcastInDim S1x32 ![] bcast_S_S1x32 main_c_0
  let main_v9 : IVec S1x32 1 := cmpi .sle main_v7 main_v8
  main_v9
-- ==== Pre_fits_ReferenceIdeal.lean ====
abbrev S16384x256 : Shape := ⟨2, ![16384, 256]⟩
abbrev S1x16384 : Shape := ⟨2, ![1, 16384]⟩
abbrev S32x1x512 : Shape := ⟨3, ![32, 1, 512]⟩
abbrev S32 : Shape := ⟨1, ![32]⟩
abbrev S1x32x1 : Shape := ⟨3, ![1, 32, 1]⟩
abbrev S32x32x512 : Shape := ⟨3, ![32, 32, 512]⟩
abbrev S_ : Shape := ⟨0, ![]⟩
abbrev S32x32 : Shape := ⟨2, ![32, 32]⟩

class Facts : Prop where
  shapeCasts_S1x16384_S32x1x512 : S1x16384.ShapeCasts S32x1x512
  bcast_S32_S1x32x1_1 : S32.BroadcastsInDim S1x32x1 (![1] : Fin 1 → Fin S1x32x1.rank)
  bcast_S32x1x512_S32x32x512_0_1_2 : S32x1x512.BroadcastsInDim S32x32x512 (![0, 1, 2] : Fin 3 → Fin S32x32x512.rank)
  bcast_S1x32x1_S32x32x512_0_1_2 : S1x32x1.BroadcastsInDim S32x32x512 (![0, 1, 2] : Fin 3 → Fin S32x32x512.rank)
  natLt_1_32 : 1 < 32
  reducesTo_S32x32x512_S32x32_d2 : S32x32x512.ReducesTo [2] S32x32
  h_S_ : 0 < S_.numel
  bcast_S_S32x32 : S_.BroadcastsInDim S32x32 (![] : Fin 0 → Fin S32x32.rank)

variable [Facts]

def fn {F : FTy → Type} [FloatOps F] (main_arg0 : FVec F S16384x256 .f32) (main_arg1 : IVec S1x16384 32) : IVec S32x32 1 :=
  let main_v0 : IVec S32x1x512 32 := shapeCast S32x1x512 main_arg1 shapeCasts_S1x16384_S32x1x512
  let main_v1 : IVec S32 32 := iotaInDim S32 32 0
  let main_v2 : IVec S1x32x1 32 := broadcastInDim S1x32x1 ![1] bcast_S32_S1x32x1_1 main_v1
  let main_v3 : IVec S32x32x512 32 := broadcastInDim S32x32x512 ![0, 1, 2] bcast_S32x1x512_S32x32x512_0_1_2 main_v0
  let main_v4 : IVec S32x32x512 32 := broadcastInDim S32x32x512 ![0, 1, 2] bcast_S1x32x1_S32x32x512_0_1_2 main_v2
  let main_v5 : IVec S32x32x512 1 := cmpi .eq main_v3 main_v4
  let main_v6 : IVec S32x32x512 32 := (extui 32 · natLt_1_32) main_v5
  let main_c : IVec S_ 32 := constantI S_ 32 0#32
  let main_v7 : IVec S32x32 32 := (fun x v => Host.reduce IntOp.addi x v reducesTo_S32x32x512_S32x32_d2 h_S_) main_v6 main_c
  let main_c_0 : IVec S_ 32 := constantI S_ 32 31#32
  let main_v8 : IVec S32x32 32 := broadcastInDim S32x32 ![] bcast_S_S32x32 main_c_0
  let main_v9 : IVec S32x32 1 := cmpi .sle main_v7 main_v8
  main_v9
-- ==== Kernel.lean ====
abbrev S512x256 : Shape := ⟨2, ![512, 256]⟩
abbrev S1x512 : Shape := ⟨2, ![1, 512]⟩
abbrev S1024x256 : Shape := ⟨2, ![1024, 256]⟩
abbrev S32 : Shape := ⟨1, ![32]⟩
abbrev S32x512 : Shape := ⟨2, ![32, 512]⟩
abbrev S512x512 : Shape := ⟨2, ![512, 512]⟩
abbrev S512 : Shape := ⟨1, ![512]⟩
abbrev S32x1 : Shape := ⟨2, ![32, 1]⟩
abbrev S1024x512 : Shape := ⟨2, ![1024, 512]⟩
abbrev S1024x32 : Shape := ⟨2, ![1024, 32]⟩
abbrev S32x256 : Shape := ⟨2, ![32, 256]⟩
abbrev S_ : Shape := ⟨0, ![]⟩
abbrev S1 : Shape := ⟨1, ![1]⟩
abbrev S32x1024 : Shape := ⟨2, ![32, 1024]⟩
abbrev S32x32 : Shape := ⟨2, ![32, 32]⟩
abbrev S1x32 : Shape := ⟨2, ![1, 32]⟩
abbrev S1x1024 : Shape := ⟨2, ![1, 1024]⟩
abbrev S512x1 : Shape := ⟨2, ![512, 1]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S1x512, .i32⟩
  | .hbm, ⟨2, _⟩ => ⟨S512x256, .f32⟩
  | .local _ .vmem, ⟨0, _⟩ => ⟨S512x256, .f32⟩
  | .local _ .vmem, ⟨1, _⟩ => ⟨S1x512, .i32⟩
  | .local _ .vmem, ⟨2, _⟩ => ⟨S512x256, .f32⟩
  | .local _ .vmem, ⟨3, _⟩ => ⟨S1024x256, .f32⟩
  | .local _ .vmem, ⟨4, _⟩ => ⟨S1024x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 : Nat :=
  let c0_i32_16 : BitVec 32 := 0#32
  let c0_i32 : BitVec 32 := 0#32
  let c1_i32_15 : BitVec 32 := 1#32
  let v56 : BitVec 32 := Scalar.muli c0_i32 c1_i32_15
  let v57 : BitVec 32 := Scalar.addi c0_i32_16 v56
  v57.toNat
def k0_dev2 : Nat :=
  let c0_i32_20 : BitVec 32 := 0#32
  let c1_i32_18 : BitVec 32 := 1#32
  let c1_i32_19 : BitVec 32 := 1#32
  let v58 : BitVec 32 := Scalar.muli c1_i32_18 c1_i32_19
  let v59 : BitVec 32 := Scalar.addi c0_i32_20 v58
  v59.toNat
def k0_dev3 : Nat :=
  let c0_i32_23 : BitVec 32 := 0#32
  let c2_i32 : BitVec 32 := 2#32
  let c1_i32_22 : BitVec 32 := 1#32
  let v60 : BitVec 32 := Scalar.muli c2_i32 c1_i32_22
  let v61 : BitVec 32 := Scalar.addi c0_i32_23 v60
  v61.toNat
def k0_dev4 : Nat :=
  let c0_i32_26 : BitVec 32 := 0#32
  let c3_i32 : BitVec 32 := 3#32
  let c1_i32_25 : BitVec 32 := 1#32
  let v62 : BitVec 32 := Scalar.muli c3_i32 c1_i32_25
  let v63 : BitVec 32 := Scalar.addi c0_i32_26 v62
  v63.toNat
def k0_dev5 : Nat :=
  let c0_i32_29 : BitVec 32 := 0#32
  let c4_i32 : BitVec 32 := 4#32
  let c1_i32_28 : BitVec 32 := 1#32
  let v64 : BitVec 32 := Scalar.muli c4_i32 c1_i32_28
  let v65 : BitVec 32 := Scalar.addi c0_i32_29 v64
  v65.toNat
def k0_dev6 : Nat :=
  let c0_i32_32 : BitVec 32 := 0#32
  let c5_i32 : BitVec 32 := 5#32
  let c1_i32_31 : BitVec 32 := 1#32
  let v66 : BitVec 32 := Scalar.muli c5_i32 c1_i32_31
  let v67 : BitVec 32 := Scalar.addi c0_i32_32 v66
  v67.toNat
def k0_dev7 : Nat :=
  let c0_i32_35 : BitVec 32 := 0#32
  let c6_i32 : BitVec 32 := 6#32
  let c1_i32_34 : BitVec 32 := 1#32
  let v68 : BitVec 32 := Scalar.muli c6_i32 c1_i32_34
  let v69 : BitVec 32 := Scalar.addi c0_i32_35 v68
  v69.toNat
def k0_dev8 : Nat :=
  let c0_i32_38 : BitVec 32 := 0#32
  let c7_i32 : BitVec 32 := 7#32
  let c1_i32_37 : BitVec 32 := 1#32
  let v70 : BitVec 32 := Scalar.muli c7_i32 c1_i32_37
  let v71 : BitVec 32 := Scalar.addi c0_i32_38 v70
  v71.toNat
def k0_dev9 : Nat :=
  let c0_i32_41 : BitVec 32 := 0#32
  let c8_i32 : BitVec 32 := 8#32
  let c1_i32_40 : BitVec 32 := 1#32
  let v72 : BitVec 32 := Scalar.muli c8_i32 c1_i32_40
  let v73 : BitVec 32 := Scalar.addi c0_i32_41 v72
  v73.toNat
def k0_dev10 : Nat :=
  let c0_i32_44 : BitVec 32 := 0#32
  let c9_i32 : BitVec 32 := 9#32
  let c1_i32_43 : BitVec 32 := 1#32
  let v74 : BitVec 32 := Scalar.muli c9_i32 c1_i32_43
  let v75 : BitVec 32 := Scalar.addi c0_i32_44 v74
  v75.toNat
def k0_dev11 : Nat :=
  let c0_i32_47 : BitVec 32 := 0#32
  let c10_i32 : BitVec 32 := 10#32
  let c1_i32_46 : BitVec 32 := 1#32
  let v76 : BitVec 32 := Scalar.muli c10_i32 c1_i32_46
  let v77 : BitVec 32 := Scalar.addi c0_i32_47 v76
  v77.toNat
def k0_dev12 : Nat :=
  let c0_i32_50 : BitVec 32 := 0#32
  let c11_i32 : BitVec 32 := 11#32
  let c1_i32_49 : BitVec 32 := 1#32
  let v78 : BitVec 32 := Scalar.muli c11_i32 c1_i32_49
  let v79 : BitVec 32 := Scalar.addi c0_i32_50 v78
  v79.toNat
def k0_dev13 : Nat :=
  let c0_i32_53 : BitVec 32 := 0#32
  let c12_i32 : BitVec 32 := 12#32
  let c1_i32_52 : BitVec 32 := 1#32
  let v80 : BitVec 32 := Scalar.muli c12_i32 c1_i32_52
  let v81 : BitVec 32 := Scalar.addi c0_i32_53 v80
  v81.toNat
def k0_dev14 : Nat :=
  let c0_i32_56 : BitVec 32 := 0#32
  let c13_i32 : BitVec 32 := 13#32
  let c1_i32_55 : BitVec 32 := 1#32
  let v82 : BitVec 32 := Scalar.muli c13_i32 c1_i32_55
  let v83 : BitVec 32 := Scalar.addi c0_i32_56 v82
  v83.toNat
def k0_dev15 : Nat :=
  let c0_i32_59 : BitVec 32 := 0#32
  let c14_i32 : BitVec 32 := 14#32
  let c1_i32_58 : BitVec 32 := 1#32
  let v84 : BitVec 32 := Scalar.muli c14_i32 c1_i32_58
  let v85 : BitVec 32 := Scalar.addi c0_i32_59 v84
  v85.toNat
def k0_dev16 : Nat :=
  let c0_i32_62 : BitVec 32 := 0#32
  let c15_i32 : BitVec 32 := 15#32
  let c1_i32_61 : BitVec 32 := 1#32
  let v86 : BitVec 32 := Scalar.muli c15_i32 c1_i32_61
  let v87 : BitVec 32 := Scalar.addi c0_i32_62 v86
  v87.toNat
def k0_dev17 : Nat :=
  let c0_i32_65 : BitVec 32 := 0#32
  let c16_i32 : BitVec 32 := 16#32
  let c1_i32_64 : BitVec 32 := 1#32
  let v88 : BitVec 32 := Scalar.muli c16_i32 c1_i32_64
  let v89 : BitVec 32 := Scalar.addi c0_i32_65 v88
  v89.toNat
def k0_dev18 : Nat :=
  let c0_i32_68 : BitVec 32 := 0#32
  let c17_i32 : BitVec 32 := 17#32
  let c1_i32_67 : BitVec 32 := 1#32
  let v90 : BitVec 32 := Scalar.muli c17_i32 c1_i32_67
  let v91 : BitVec 32 := Scalar.addi c0_i32_68 v90
  v91.toNat
def k0_dev19 : Nat :=
  let c0_i32_71 : BitVec 32 := 0#32
  let c18_i32 : BitVec 32 := 18#32
  let c1_i32_70 : BitVec 32 := 1#32
  let v92 : BitVec 32 := Scalar.muli c18_i32 c1_i32_70
  let v93 : BitVec 32 := Scalar.addi c0_i32_71 v92
  v93.toNat
def k0_dev20 : Nat :=
  let c0_i32_74 : BitVec 32 := 0#32
  let c19_i32 : BitVec 32 := 19#32
  let c1_i32_73 : BitVec 32 := 1#32
  let v94 : BitVec 32 := Scalar.muli c19_i32 c1_i32_73
  let v95 : BitVec 32 := Scalar.addi c0_i32_74 v94
  v95.toNat
def k0_dev21 : Nat :=
  let c0_i32_77 : BitVec 32 := 0#32
  let c20_i32 : BitVec 32 := 20#32
  let c1_i32_76 : BitVec 32 := 1#32
  let v96 : BitVec 32 := Scalar.muli c20_i32 c1_i32_76
  let v97 : BitVec 32 := Scalar.addi c0_i32_77 v96
  v97.toNat
def k0_dev22 : Nat :=
  let c0_i32_80 : BitVec 32 := 0#32
  let c21_i32 : BitVec 32 := 21#32
  let c1_i32_79 : BitVec 32 := 1#32
  let v98 : BitVec 32 := Scalar.muli c21_i32 c1_i32_79
  let v99 : BitVec 32 := Scalar.addi c0_i32_80 v98
  v99.toNat
def k0_dev23 : Nat :=
  let c0_i32_83 : BitVec 32 := 0#32
  let c22_i32 : BitVec 32 := 22#32
  let c1_i32_82 : BitVec 32 := 1#32
  let v100 : BitVec 32 := Scalar.muli c22_i32 c1_i32_82
  let v101 : BitVec 32 := Scalar.addi c0_i32_83 v100
  v101.toNat
def k0_dev24 : Nat :=
  let c0_i32_86 : BitVec 32 := 0#32
  let c23_i32 : BitVec 32 := 23#32
  let c1_i32_85 : BitVec 32 := 1#32
  let v102 : BitVec 32 := Scalar.muli c23_i32 c1_i32_85
  let v103 : BitVec 32 := Scalar.addi c0_i32_86 v102
  v103.toNat
def k0_dev25 : Nat :=
  let c0_i32_89 : BitVec 32 := 0#32
  let c24_i32 : BitVec 32 := 24#32
  let c1_i32_88 : BitVec 32 := 1#32
  let v104 : BitVec 32 := Scalar.muli c24_i32 c1_i32_88
  let v105 : BitVec 32 := Scalar.addi c0_i32_89 v104
  v105.toNat
def k0_dev26 : Nat :=
  let c0_i32_92 : BitVec 32 := 0#32
  let c25_i32 : BitVec 32 := 25#32
  let c1_i32_91 : BitVec 32 := 1#32
  let v106 : BitVec 32 := Scalar.muli c25_i32 c1_i32_91
  let v107 : BitVec 32 := Scalar.addi c0_i32_92 v106
  v107.toNat
def k0_dev27 : Nat :=
  let c0_i32_95 : BitVec 32 := 0#32
  let c26_i32 : BitVec 32 := 26#32
  let c1_i32_94 : BitVec 32 := 1#32
  let v108 : BitVec 32 := Scalar.muli c26_i32 c1_i32_94
  let v109 : BitVec 32 := Scalar.addi c0_i32_95 v108
  v109.toNat
def k0_dev28 : Nat :=
  let c0_i32_98 : BitVec 32 := 0#32
  let c27_i32 : BitVec 32 := 27#32
  let c1_i32_97 : BitVec 32 := 1#32
  let v110 : BitVec 32 := Scalar.muli c27_i32 c1_i32_97
  let v111 : BitVec 32 := Scalar.addi c0_i32_98 v110
  v111.toNat
def k0_dev29 : Nat :=
  let c0_i32_101 : BitVec 32 := 0#32
  let c28_i32 : BitVec 32 := 28#32
  let c1_i32_100 : BitVec 32 := 1#32
  let v112 : BitVec 32 := Scalar.muli c28_i32 c1_i32_100
  let v113 : BitVec 32 := Scalar.addi c0_i32_101 v112
  v113.toNat
def k0_dev30 : Nat :=
  let c0_i32_104 : BitVec 32 := 0#32
  let c29_i32 : BitVec 32 := 29#32
  let c1_i32_103 : BitVec 32 := 1#32
  let v114 : BitVec 32 := Scalar.muli c29_i32 c1_i32_103
  let v115 : BitVec 32 := Scalar.addi c0_i32_104 v114
  v115.toNat
def k0_dev31 : Nat :=
  let c0_i32_107 : BitVec 32 := 0#32
  let c30_i32 : BitVec 32 := 30#32
  let c1_i32_106 : BitVec 32 := 1#32
  let v116 : BitVec 32 := Scalar.muli c30_i32 c1_i32_106
  let v117 : BitVec 32 := Scalar.addi c0_i32_107 v116
  v117.toNat
def k0_dev32 : Nat :=
  let c0_i32_110 : BitVec 32 := 0#32
  let c31_i32 : BitVec 32 := 31#32
  let c1_i32_109 : BitVec 32 := 1#32
  let v118 : BitVec 32 := Scalar.muli c31_i32 c1_i32_109
  let v119 : BitVec 32 := Scalar.addi c0_i32_110 v118
  v119.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_144 : BitVec 32 := 0#32
  let v152 : BitVec 1 := Scalar.cmpi .ne v2 c0_i32_144
  let v153 : BitVec 32 := Scalar.extui v152
  let c0_i32_146 : BitVec 32 := 0#32
  let v154 : BitVec 1 := Scalar.cmpi .ne v153 c0_i32_146
  v154

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_112 : BitVec 32 := 32#32
  let v120 : BitVec 32 := Scalar.muli v2 c32_i32_112
  let c0_i32_488 : BitVec 32 := 0#32
  ![v120.toNat, 0]
def k0_dev33 : Nat :=
  let c0_i32_487 : BitVec 32 := 0#32
  let c0_i32_485 : BitVec 32 := 0#32
  let c1_i32_486 : BitVec 32 := 1#32
  let v507 : BitVec 32 := Scalar.muli c0_i32_485 c1_i32_486
  let v508 : BitVec 32 := Scalar.addi c0_i32_487 v507
  v508.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_147 : BitVec 32 := 1#32
  let v155 : BitVec 1 := Scalar.cmpi .ne v2 c1_i32_147
  let v156 : BitVec 32 := Scalar.extui v155
  let c0_i32_149 : BitVec 32 := 0#32
  let v157 : BitVec 1 := Scalar.cmpi .ne v156 c0_i32_149
  v157

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_113 : BitVec 32 := 32#32
  let v121 : BitVec 32 := Scalar.muli v2 c32_i32_113
  let c0_i32_488 : BitVec 32 := 0#32
  ![v121.toNat, 0]
def k0_dev34 : Nat :=
  let c0_i32_487 : BitVec 32 := 0#32
  let c1_i32_485 : BitVec 32 := 1#32
  let c1_i32_486 : BitVec 32 := 1#32
  let v507 : BitVec 32 := Scalar.muli c1_i32_485 c1_i32_486
  let v508 : BitVec 32 := Scalar.addi c0_i32_487 v507
  v508.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_150 : BitVec 32 := 2#32
  let v158 : BitVec 1 := Scalar.cmpi .ne v2 c2_i32_150
  let v159 : BitVec 32 := Scalar.extui v158
  let c0_i32_152 : BitVec 32 := 0#32
  let v160 : BitVec 1 := Scalar.cmpi .ne v159 c0_i32_152
  v160

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_114 : BitVec 32 := 32#32
  let v122 : BitVec 32 := Scalar.muli v2 c32_i32_114
  let c0_i32_488 : BitVec 32 := 0#32
  ![v122.toNat, 0]
def k0_dev35 : Nat :=
  let c0_i32_487 : BitVec 32 := 0#32
  let c2_i32_485 : BitVec 32 := 2#32
  let c1_i32_486 : BitVec 32 := 1#32
  let v507 : BitVec 32 := Scalar.muli c2_i32_485 c1_i32_486
  let v508 : BitVec 32 := Scalar.addi c0_i32_487 v507
  v508.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_153 : BitVec 32 := 3#32
  let v161 : BitVec 1 := Scalar.cmpi .ne v2 c3_i32_153
  let v162 : BitVec 32 := Scalar.extui v161
  let c0_i32_155 : BitVec 32 := 0#32
  let v163 : BitVec 1 := Scalar.cmpi .ne v162 c0_i32_155
  v163

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_115 : BitVec 32 := 32#32
  let v123 : BitVec 32 := Scalar.muli v2 c32_i32_115
  let c0_i32_488 : BitVec 32 := 0#32
  ![v123.toNat, 0]
def k0_dev36 : Nat :=
  let c0_i32_487 : BitVec 32 := 0#32
  let c3_i32_485 : BitVec 32 := 3#32
  let c1_i32_486 : BitVec 32 := 1#32
  let v507 : BitVec 32 := Scalar.muli c3_i32_485 c1_i32_486
  let v508 : BitVec 32 := Scalar.addi c0_i32_487 v507
  v508.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_156 : BitVec 32 := 4#32
  let v164 : BitVec 1 := Scalar.cmpi .ne v2 c4_i32_156
  let v165 : BitVec 32 := Scalar.extui v164
  let c0_i32_158 : BitVec 32 := 0#32
  let v166 : BitVec 1 := Scalar.cmpi .ne v165 c0_i32_158
  v166

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_116 : BitVec 32 := 32#32
  let v124 : BitVec 32 := Scalar.muli v2 c32_i32_116
  let c0_i32_488 : BitVec 32 := 0#32
  ![v124.toNat, 0]
def k0_dev37 : Nat :=
  let c0_i32_487 : BitVec 32 := 0#32
  let c4_i32_485 : BitVec 32 := 4#32
  let c1_i32_486 : BitVec 32 := 1#32
  let v507 : BitVec 32 := Scalar.muli c4_i32_485 c1_i32_486
  let v508 : BitVec 32 := Scalar.addi c0_i32_487 v507
  v508.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_159 : BitVec 32 := 5#32
  let v167 : BitVec 1 := Scalar.cmpi .ne v2 c5_i32_159
  let v168 : BitVec 32 := Scalar.extui v167
  let c0_i32_161 : BitVec 32 := 0#32
  let v169 : BitVec 1 := Scalar.cmpi .ne v168 c0_i32_161
  v169

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_117 : BitVec 32 := 32#32
  let v125 : BitVec 32 := Scalar.muli v2 c32_i32_117
  let c0_i32_488 : BitVec 32 := 0#32
  ![v125.toNat, 0]
def k0_dev38 : Nat :=
  let c0_i32_487 : BitVec 32 := 0#32
  let c5_i32_485 : BitVec 32 := 5#32
  let c1_i32_486 : BitVec 32 := 1#32
  let v507 : BitVec 32 := Scalar.muli c5_i32_485 c1_i32_486
  let v508 : BitVec 32 := Scalar.addi c0_i32_487 v507
  v508.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_162 : BitVec 32 := 6#32
  let v170 : BitVec 1 := Scalar.cmpi .ne v2 c6_i32_162
  let v171 : BitVec 32 := Scalar.extui v170
  let c0_i32_164 : BitVec 32 := 0#32
  let v172 : BitVec 1 := Scalar.cmpi .ne v171 c0_i32_164
  v172

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_118 : BitVec 32 := 32#32
  let v126 : BitVec 32 := Scalar.muli v2 c32_i32_118
  let c0_i32_488 : BitVec 32 := 0#32
  ![v126.toNat, 0]
def k0_dev39 : Nat :=
  let c0_i32_487 : BitVec 32 := 0#32
  let c6_i32_485 : BitVec 32 := 6#32
  let c1_i32_486 : BitVec 32 := 1#32
  let v507 : BitVec 32 := Scalar.muli c6_i32_485 c1_i32_486
  let v508 : BitVec 32 := Scalar.addi c0_i32_487 v507
  v508.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_165 : BitVec 32 := 7#32
  let v173 : BitVec 1 := Scalar.cmpi .ne v2 c7_i32_165
  let v174 : BitVec 32 := Scalar.extui v173
  let c0_i32_167 : BitVec 32 := 0#32
  let v175 : BitVec 1 := Scalar.cmpi .ne v174 c0_i32_167
  v175

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_119 : BitVec 32 := 32#32
  let v127 : BitVec 32 := Scalar.muli v2 c32_i32_119
  let c0_i32_488 : BitVec 32 := 0#32
  ![v127.toNat, 0]
def k0_dev40 : Nat :=
  let c0_i32_487 : BitVec 32 := 0#32
  let c7_i32_485 : BitVec 32 := 7#32
  let c1_i32_486 : BitVec 32 := 1#32
  let v507 : BitVec 32 := Scalar.muli c7_i32_485 c1_i32_486
  let v508 : BitVec 32 := Scalar.addi c0_i32_487 v507
  v508.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_168 : BitVec 32 := 8#32
  let v176 : BitVec 1 := Scalar.cmpi .ne v2 c8_i32_168
  let v177 : BitVec 32 := Scalar.extui v176
  let c0_i32_170 : BitVec 32 := 0#32
  let v178 : BitVec 1 := Scalar.cmpi .ne v177 c0_i32_170
  v178

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_120 : BitVec 32 := 32#32
  let v128 : BitVec 32 := Scalar.muli v2 c32_i32_120
  let c0_i32_488 : BitVec 32 := 0#32
  ![v128.toNat, 0]
def k0_dev41 : Nat :=
  let c0_i32_487 : BitVec 32 := 0#32
  let c8_i32_485 : BitVec 32 := 8#32
  let c1_i32_486 : BitVec 32 := 1#32
  let v507 : BitVec 32 := Scalar.muli c8_i32_485 c1_i32_486
  let v508 : BitVec 32 := Scalar.addi c0_i32_487 v507
  v508.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_171 : BitVec 32 := 9#32
  let v179 : BitVec 1 := Scalar.cmpi .ne v2 c9_i32_171
  let v180 : BitVec 32 := Scalar.extui v179
  let c0_i32_173 : BitVec 32 := 0#32
  let v181 : BitVec 1 := Scalar.cmpi .ne v180 c0_i32_173
  v181

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_121 : BitVec 32 := 32#32
  let v129 : BitVec 32 := Scalar.muli v2 c32_i32_121
  let c0_i32_488 : BitVec 32 := 0#32
  ![v129.toNat, 0]
def k0_dev42 : Nat :=
  let c0_i32_487 : BitVec 32 := 0#32
  let c9_i32_485 : BitVec 32 := 9#32
  let c1_i32_486 : BitVec 32 := 1#32
  let v507 : BitVec 32 := Scalar.muli c9_i32_485 c1_i32_486
  let v508 : BitVec 32 := Scalar.addi c0_i32_487 v507
  v508.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_174 : BitVec 32 := 10#32
  let v182 : BitVec 1 := Scalar.cmpi .ne v2 c10_i32_174
  let v183 : BitVec 32 := Scalar.extui v182
  let c0_i32_176 : BitVec 32 := 0#32
  let v184 : BitVec 1 := Scalar.cmpi .ne v183 c0_i32_176
  v184

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_122 : BitVec 32 := 32#32
  let v130 : BitVec 32 := Scalar.muli v2 c32_i32_122
  let c0_i32_488 : BitVec 32 := 0#32
  ![v130.toNat, 0]
def k0_dev43 : Nat :=
  let c0_i32_487 : BitVec 32 := 0#32
  let c10_i32_485 : BitVec 32 := 10#32
  let c1_i32_486 : BitVec 32 := 1#32
  let v507 : BitVec 32 := Scalar.muli c10_i32_485 c1_i32_486
  let v508 : BitVec 32 := Scalar.addi c0_i32_487 v507
  v508.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_177 : BitVec 32 := 11#32
  let v185 : BitVec 1 := Scalar.cmpi .ne v2 c11_i32_177
  let v186 : BitVec 32 := Scalar.extui v185
  let c0_i32_179 : BitVec 32 := 0#32
  let v187 : BitVec 1 := Scalar.cmpi .ne v186 c0_i32_179
  v187

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_123 : BitVec 32 := 32#32
  let v131 : BitVec 32 := Scalar.muli v2 c32_i32_123
  let c0_i32_488 : BitVec 32 := 0#32
  ![v131.toNat, 0]
def k0_dev44 : Nat :=
  let c0_i32_487 : BitVec 32 := 0#32
  let c11_i32_485 : BitVec 32 := 11#32
  let c1_i32_486 : BitVec 32 := 1#32
  let v507 : BitVec 32 := Scalar.muli c11_i32_485 c1_i32_486
  let v508 : BitVec 32 := Scalar.addi c0_i32_487 v507
  v508.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_180 : BitVec 32 := 12#32
  let v188 : BitVec 1 := Scalar.cmpi .ne v2 c12_i32_180
  let v189 : BitVec 32 := Scalar.extui v188
  let c0_i32_182 : BitVec 32 := 0#32
  let v190 : BitVec 1 := Scalar.cmpi .ne v189 c0_i32_182
  v190

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_124 : BitVec 32 := 32#32
  let v132 : BitVec 32 := Scalar.muli v2 c32_i32_124
  let c0_i32_488 : BitVec 32 := 0#32
  ![v132.toNat, 0]
def k0_dev45 : Nat :=
  let c0_i32_487 : BitVec 32 := 0#32
  let c12_i32_485 : BitVec 32 := 12#32
  let c1_i32_486 : BitVec 32 := 1#32
  let v507 : BitVec 32 := Scalar.muli c12_i32_485 c1_i32_486
  let v508 : BitVec 32 := Scalar.addi c0_i32_487 v507
  v508.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_183 : BitVec 32 := 13#32
  let v191 : BitVec 1 := Scalar.cmpi .ne v2 c13_i32_183
  let v192 : BitVec 32 := Scalar.extui v191
  let c0_i32_185 : BitVec 32 := 0#32
  let v193 : BitVec 1 := Scalar.cmpi .ne v192 c0_i32_185
  v193

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_125 : BitVec 32 := 32#32
  let v133 : BitVec 32 := Scalar.muli v2 c32_i32_125
  let c0_i32_488 : BitVec 32 := 0#32
  ![v133.toNat, 0]
def k0_dev46 : Nat :=
  let c0_i32_487 : BitVec 32 := 0#32
  let c13_i32_485 : BitVec 32 := 13#32
  let c1_i32_486 : BitVec 32 := 1#32
  let v507 : BitVec 32 := Scalar.muli c13_i32_485 c1_i32_486
  let v508 : BitVec 32 := Scalar.addi c0_i32_487 v507
  v508.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_186 : BitVec 32 := 14#32
  let v194 : BitVec 1 := Scalar.cmpi .ne v2 c14_i32_186
  let v195 : BitVec 32 := Scalar.extui v194
  let c0_i32_188 : BitVec 32 := 0#32
  let v196 : BitVec 1 := Scalar.cmpi .ne v195 c0_i32_188
  v196

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_126 : BitVec 32 := 32#32
  let v134 : BitVec 32 := Scalar.muli v2 c32_i32_126
  let c0_i32_488 : BitVec 32 := 0#32
  ![v134.toNat, 0]
def k0_dev47 : Nat :=
  let c0_i32_487 : BitVec 32 := 0#32
  let c14_i32_485 : BitVec 32 := 14#32
  let c1_i32_486 : BitVec 32 := 1#32
  let v507 : BitVec 32 := Scalar.muli c14_i32_485 c1_i32_486
  let v508 : BitVec 32 := Scalar.addi c0_i32_487 v507
  v508.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_189 : BitVec 32 := 15#32
  let v197 : BitVec 1 := Scalar.cmpi .ne v2 c15_i32_189
  let v198 : BitVec 32 := Scalar.extui v197
  let c0_i32_191 : BitVec 32 := 0#32
  let v199 : BitVec 1 := Scalar.cmpi .ne v198 c0_i32_191
  v199

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_127 : BitVec 32 := 32#32
  let v135 : BitVec 32 := Scalar.muli v2 c32_i32_127
  let c0_i32_488 : BitVec 32 := 0#32
  ![v135.toNat, 0]
def k0_dev48 : Nat :=
  let c0_i32_487 : BitVec 32 := 0#32
  let c15_i32_485 : BitVec 32 := 15#32
  let c1_i32_486 : BitVec 32 := 1#32
  let v507 : BitVec 32 := Scalar.muli c15_i32_485 c1_i32_486
  let v508 : BitVec 32 := Scalar.addi c0_i32_487 v507
  v508.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_192 : BitVec 32 := 16#32
  let v200 : BitVec 1 := Scalar.cmpi .ne v2 c16_i32_192
  let v201 : BitVec 32 := Scalar.extui v200
  let c0_i32_194 : BitVec 32 := 0#32
  let v202 : BitVec 1 := Scalar.cmpi .ne v201 c0_i32_194
  v202

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_128 : BitVec 32 := 32#32
  let v136 : BitVec 32 := Scalar.muli v2 c32_i32_128
  let c0_i32_488 : BitVec 32 := 0#32
  ![v136.toNat, 0]
def k0_dev49 : Nat :=
  let c0_i32_487 : BitVec 32 := 0#32
  let c16_i32_485 : BitVec 32 := 16#32
  let c1_i32_486 : BitVec 32 := 1#32
  let v507 : BitVec 32 := Scalar.muli c16_i32_485 c1_i32_486
  let v508 : BitVec 32 := Scalar.addi c0_i32_487 v507
  v508.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_195 : BitVec 32 := 17#32
  let v203 : BitVec 1 := Scalar.cmpi .ne v2 c17_i32_195
  let v204 : BitVec 32 := Scalar.extui v203
  let c0_i32_197 : BitVec 32 := 0#32
  let v205 : BitVec 1 := Scalar.cmpi .ne v204 c0_i32_197
  v205

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_129 : BitVec 32 := 32#32
  let v137 : BitVec 32 := Scalar.muli v2 c32_i32_129
  let c0_i32_488 : BitVec 32 := 0#32
  ![v137.toNat, 0]
def k0_dev50 : Nat :=
  let c0_i32_487 : BitVec 32 := 0#32
  let c17_i32_485 : BitVec 32 := 17#32
  let c1_i32_486 : BitVec 32 := 1#32
  let v507 : BitVec 32 := Scalar.muli c17_i32_485 c1_i32_486
  let v508 : BitVec 32 := Scalar.addi c0_i32_487 v507
  v508.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_198 : BitVec 32 := 18#32
  let v206 : BitVec 1 := Scalar.cmpi .ne v2 c18_i32_198
  let v207 : BitVec 32 := Scalar.extui v206
  let c0_i32_200 : BitVec 32 := 0#32
  let v208 : BitVec 1 := Scalar.cmpi .ne v207 c0_i32_200
  v208

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_130 : BitVec 32 := 32#32
  let v138 : BitVec 32 := Scalar.muli v2 c32_i32_130
  let c0_i32_488 : BitVec 32 := 0#32
  ![v138.toNat, 0]
def k0_dev51 : Nat :=
  let c0_i32_487 : BitVec 32 := 0#32
  let c18_i32_485 : BitVec 32 := 18#32
  let c1_i32_486 : BitVec 32 := 1#32
  let v507 : BitVec 32 := Scalar.muli c18_i32_485 c1_i32_486
  let v508 : BitVec 32 := Scalar.addi c0_i32_487 v507
  v508.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_201 : BitVec 32 := 19#32
  let v209 : BitVec 1 := Scalar.cmpi .ne v2 c19_i32_201
  let v210 : BitVec 32 := Scalar.extui v209
  let c0_i32_203 : BitVec 32 := 0#32
  let v211 : BitVec 1 := Scalar.cmpi .ne v210 c0_i32_203
  v211

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_131 : BitVec 32 := 32#32
  let v139 : BitVec 32 := Scalar.muli v2 c32_i32_131
  let c0_i32_488 : BitVec 32 := 0#32
  ![v139.toNat, 0]
def k0_dev52 : Nat :=
  let c0_i32_487 : BitVec 32 := 0#32
  let c19_i32_485 : BitVec 32 := 19#32
  let c1_i32_486 : BitVec 32 := 1#32
  let v507 : BitVec 32 := Scalar.muli c19_i32_485 c1_i32_486
  let v508 : BitVec 32 := Scalar.addi c0_i32_487 v507
  v508.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_204 : BitVec 32 := 20#32
  let v212 : BitVec 1 := Scalar.cmpi .ne v2 c20_i32_204
  let v213 : BitVec 32 := Scalar.extui v212
  let c0_i32_206 : BitVec 32 := 0#32
  let v214 : BitVec 1 := Scalar.cmpi .ne v213 c0_i32_206
  v214

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_132 : BitVec 32 := 32#32
  let v140 : BitVec 32 := Scalar.muli v2 c32_i32_132
  let c0_i32_488 : BitVec 32 := 0#32
  ![v140.toNat, 0]
def k0_dev53 : Nat :=
  let c0_i32_487 : BitVec 32 := 0#32
  let c20_i32_485 : BitVec 32 := 20#32
  let c1_i32_486 : BitVec 32 := 1#32
  let v507 : BitVec 32 := Scalar.muli c20_i32_485 c1_i32_486
  let v508 : BitVec 32 := Scalar.addi c0_i32_487 v507
  v508.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_207 : BitVec 32 := 21#32
  let v215 : BitVec 1 := Scalar.cmpi .ne v2 c21_i32_207
  let v216 : BitVec 32 := Scalar.extui v215
  let c0_i32_209 : BitVec 32 := 0#32
  let v217 : BitVec 1 := Scalar.cmpi .ne v216 c0_i32_209
  v217

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_133 : BitVec 32 := 32#32
  let v141 : BitVec 32 := Scalar.muli v2 c32_i32_133
  let c0_i32_488 : BitVec 32 := 0#32
  ![v141.toNat, 0]
def k0_dev54 : Nat :=
  let c0_i32_487 : BitVec 32 := 0#32
  let c21_i32_485 : BitVec 32 := 21#32
  let c1_i32_486 : BitVec 32 := 1#32
  let v507 : BitVec 32 := Scalar.muli c21_i32_485 c1_i32_486
  let v508 : BitVec 32 := Scalar.addi c0_i32_487 v507
  v508.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_210 : BitVec 32 := 22#32
  let v218 : BitVec 1 := Scalar.cmpi .ne v2 c22_i32_210
  let v219 : BitVec 32 := Scalar.extui v218
  let c0_i32_212 : BitVec 32 := 0#32
  let v220 : BitVec 1 := Scalar.cmpi .ne v219 c0_i32_212
  v220

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_134 : BitVec 32 := 32#32
  let v142 : BitVec 32 := Scalar.muli v2 c32_i32_134
  let c0_i32_488 : BitVec 32 := 0#32
  ![v142.toNat, 0]
def k0_dev55 : Nat :=
  let c0_i32_487 : BitVec 32 := 0#32
  let c22_i32_485 : BitVec 32 := 22#32
  let c1_i32_486 : BitVec 32 := 1#32
  let v507 : BitVec 32 := Scalar.muli c22_i32_485 c1_i32_486
  let v508 : BitVec 32 := Scalar.addi c0_i32_487 v507
  v508.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_213 : BitVec 32 := 23#32
  let v221 : BitVec 1 := Scalar.cmpi .ne v2 c23_i32_213
  let v222 : BitVec 32 := Scalar.extui v221
  let c0_i32_215 : BitVec 32 := 0#32
  let v223 : BitVec 1 := Scalar.cmpi .ne v222 c0_i32_215
  v223

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_135 : BitVec 32 := 32#32
  let v143 : BitVec 32 := Scalar.muli v2 c32_i32_135
  let c0_i32_488 : BitVec 32 := 0#32
  ![v143.toNat, 0]
def k0_dev56 : Nat :=
  let c0_i32_487 : BitVec 32 := 0#32
  let c23_i32_485 : BitVec 32 := 23#32
  let c1_i32_486 : BitVec 32 := 1#32
  let v507 : BitVec 32 := Scalar.muli c23_i32_485 c1_i32_486
  let v508 : BitVec 32 := Scalar.addi c0_i32_487 v507
  v508.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_216 : BitVec 32 := 24#32
  let v224 : BitVec 1 := Scalar.cmpi .ne v2 c24_i32_216
  let v225 : BitVec 32 := Scalar.extui v224
  let c0_i32_218 : BitVec 32 := 0#32
  let v226 : BitVec 1 := Scalar.cmpi .ne v225 c0_i32_218
  v226

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_136 : BitVec 32 := 32#32
  let v144 : BitVec 32 := Scalar.muli v2 c32_i32_136
  let c0_i32_488 : BitVec 32 := 0#32
  ![v144.toNat, 0]
def k0_dev57 : Nat :=
  let c0_i32_487 : BitVec 32 := 0#32
  let c24_i32_485 : BitVec 32 := 24#32
  let c1_i32_486 : BitVec 32 := 1#32
  let v507 : BitVec 32 := Scalar.muli c24_i32_485 c1_i32_486
  let v508 : BitVec 32 := Scalar.addi c0_i32_487 v507
  v508.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_219 : BitVec 32 := 25#32
  let v227 : BitVec 1 := Scalar.cmpi .ne v2 c25_i32_219
  let v228 : BitVec 32 := Scalar.extui v227
  let c0_i32_221 : BitVec 32 := 0#32
  let v229 : BitVec 1 := Scalar.cmpi .ne v228 c0_i32_221
  v229

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_137 : BitVec 32 := 32#32
  let v145 : BitVec 32 := Scalar.muli v2 c32_i32_137
  let c0_i32_488 : BitVec 32 := 0#32
  ![v145.toNat, 0]
def k0_dev58 : Nat :=
  let c0_i32_487 : BitVec 32 := 0#32
  let c25_i32_485 : BitVec 32 := 25#32
  let c1_i32_486 : BitVec 32 := 1#32
  let v507 : BitVec 32 := Scalar.muli c25_i32_485 c1_i32_486
  let v508 : BitVec 32 := Scalar.addi c0_i32_487 v507
  v508.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_222 : BitVec 32 := 26#32
  let v230 : BitVec 1 := Scalar.cmpi .ne v2 c26_i32_222
  let v231 : BitVec 32 := Scalar.extui v230
  let c0_i32_224 : BitVec 32 := 0#32
  let v232 : BitVec 1 := Scalar.cmpi .ne v231 c0_i32_224
  v232

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_138 : BitVec 32 := 32#32
  let v146 : BitVec 32 := Scalar.muli v2 c32_i32_138
  let c0_i32_488 : BitVec 32 := 0#32
  ![v146.toNat, 0]
def k0_dev59 : Nat :=
  let c0_i32_487 : BitVec 32 := 0#32
  let c26_i32_485 : BitVec 32 := 26#32
  let c1_i32_486 : BitVec 32 := 1#32
  let v507 : BitVec 32 := Scalar.muli c26_i32_485 c1_i32_486
  let v508 : BitVec 32 := Scalar.addi c0_i32_487 v507
  v508.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_225 : BitVec 32 := 27#32
  let v233 : BitVec 1 := Scalar.cmpi .ne v2 c27_i32_225
  let v234 : BitVec 32 := Scalar.extui v233
  let c0_i32_227 : BitVec 32 := 0#32
  let v235 : BitVec 1 := Scalar.cmpi .ne v234 c0_i32_227
  v235

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_139 : BitVec 32 := 32#32
  let v147 : BitVec 32 := Scalar.muli v2 c32_i32_139
  let c0_i32_488 : BitVec 32 := 0#32
  ![v147.toNat, 0]
def k0_dev60 : Nat :=
  let c0_i32_487 : BitVec 32 := 0#32
  let c27_i32_485 : BitVec 32 := 27#32
  let c1_i32_486 : BitVec 32 := 1#32
  let v507 : BitVec 32 := Scalar.muli c27_i32_485 c1_i32_486
  let v508 : BitVec 32 := Scalar.addi c0_i32_487 v507
  v508.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_228 : BitVec 32 := 28#32
  let v236 : BitVec 1 := Scalar.cmpi .ne v2 c28_i32_228
  let v237 : BitVec 32 := Scalar.extui v236
  let c0_i32_230 : BitVec 32 := 0#32
  let v238 : BitVec 1 := Scalar.cmpi .ne v237 c0_i32_230
  v238

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_140 : BitVec 32 := 32#32
  let v148 : BitVec 32 := Scalar.muli v2 c32_i32_140
  let c0_i32_488 : BitVec 32 := 0#32
  ![v148.toNat, 0]
def k0_dev61 : Nat :=
  let c0_i32_487 : BitVec 32 := 0#32
  let c28_i32_485 : BitVec 32 := 28#32
  let c1_i32_486 : BitVec 32 := 1#32
  let v507 : BitVec 32 := Scalar.muli c28_i32_485 c1_i32_486
  let v508 : BitVec 32 := Scalar.addi c0_i32_487 v507
  v508.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_231 : BitVec 32 := 29#32
  let v239 : BitVec 1 := Scalar.cmpi .ne v2 c29_i32_231
  let v240 : BitVec 32 := Scalar.extui v239
  let c0_i32_233 : BitVec 32 := 0#32
  let v241 : BitVec 1 := Scalar.cmpi .ne v240 c0_i32_233
  v241

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_141 : BitVec 32 := 32#32
  let v149 : BitVec 32 := Scalar.muli v2 c32_i32_141
  let c0_i32_488 : BitVec 32 := 0#32
  ![v149.toNat, 0]
def k0_dev62 : Nat :=
  let c0_i32_487 : BitVec 32 := 0#32
  let c29_i32_485 : BitVec 32 := 29#32
  let c1_i32_486 : BitVec 32 := 1#32
  let v507 : BitVec 32 := Scalar.muli c29_i32_485 c1_i32_486
  let v508 : BitVec 32 := Scalar.addi c0_i32_487 v507
  v508.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_234 : BitVec 32 := 30#32
  let v242 : BitVec 1 := Scalar.cmpi .ne v2 c30_i32_234
  let v243 : BitVec 32 := Scalar.extui v242
  let c0_i32_236 : BitVec 32 := 0#32
  let v244 : BitVec 1 := Scalar.cmpi .ne v243 c0_i32_236
  v244

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_142 : BitVec 32 := 32#32
  let v150 : BitVec 32 := Scalar.muli v2 c32_i32_142
  let c0_i32_488 : BitVec 32 := 0#32
  ![v150.toNat, 0]
def k0_dev63 : Nat :=
  let c0_i32_487 : BitVec 32 := 0#32
  let c30_i32_485 : BitVec 32 := 30#32
  let c1_i32_486 : BitVec 32 := 1#32
  let v507 : BitVec 32 := Scalar.muli c30_i32_485 c1_i32_486
  let v508 : BitVec 32 := Scalar.addi c0_i32_487 v507
  v508.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_237 : BitVec 32 := 31#32
  let v245 : BitVec 1 := Scalar.cmpi .ne v2 c31_i32_237
  let v246 : BitVec 32 := Scalar.extui v245
  let c0_i32_239 : BitVec 32 := 0#32
  let v247 : BitVec 1 := Scalar.cmpi .ne v246 c0_i32_239
  v247

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_143 : BitVec 32 := 32#32
  let v151 : BitVec 32 := Scalar.muli v2 c32_i32_143
  let c0_i32_488 : BitVec 32 := 0#32
  ![v151.toNat, 0]
def k0_dev64 : Nat :=
  let c0_i32_487 : BitVec 32 := 0#32
  let c31_i32_485 : BitVec 32 := 31#32
  let c1_i32_486 : BitVec 32 := 1#32
  let v507 : BitVec 32 := Scalar.muli c31_i32_485 c1_i32_486
  let v508 : BitVec 32 := Scalar.addi c0_i32_487 v507
  v508.toNat
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_240 : BitVec 32 := 32#32
  let v248 : BitVec 32 := Scalar.muli v2 c32_i32_240
  let v249 : Index := Scalar.indexCast v248
  let c0_241 : Index := 0#32
  ![v249.toNat, 0]
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_389 : BitVec 32 := 0#32
  let v411 : BitVec 1 := Scalar.cmpi .ne v2 c0_i32_389
  let v412 : BitVec 32 := Scalar.extui v411
  let c0_i32_391 : BitVec 32 := 0#32
  let v413 : BitVec 1 := Scalar.cmpi .ne v412 c0_i32_391
  v413

def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_112 : BitVec 32 := 32#32
  let v120 : BitVec 32 := Scalar.muli v2 c32_i32_112
  let c0_i32_489 : BitVec 32 := 0#32
  ![v120.toNat, 0]
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_392 : BitVec 32 := 1#32
  let v414 : BitVec 1 := Scalar.cmpi .ne v2 c1_i32_392
  let v415 : BitVec 32 := Scalar.extui v414
  let c0_i32_394 : BitVec 32 := 0#32
  let v416 : BitVec 1 := Scalar.cmpi .ne v415 c0_i32_394
  v416

def k0_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_113 : BitVec 32 := 32#32
  let v121 : BitVec 32 := Scalar.muli v2 c32_i32_113
  let c0_i32_489 : BitVec 32 := 0#32
  ![v121.toNat, 0]
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_395 : BitVec 32 := 2#32
  let v417 : BitVec 1 := Scalar.cmpi .ne v2 c2_i32_395
  let v418 : BitVec 32 := Scalar.extui v417
  let c0_i32_397 : BitVec 32 := 0#32
  let v419 : BitVec 1 := Scalar.cmpi .ne v418 c0_i32_397
  v419

def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_114 : BitVec 32 := 32#32
  let v122 : BitVec 32 := Scalar.muli v2 c32_i32_114
  let c0_i32_488 : BitVec 32 := 0#32
  ![v122.toNat, 0]
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_398 : BitVec 32 := 3#32
  let v420 : BitVec 1 := Scalar.cmpi .ne v2 c3_i32_398
  let v421 : BitVec 32 := Scalar.extui v420
  let c0_i32_400 : BitVec 32 := 0#32
  let v422 : BitVec 1 := Scalar.cmpi .ne v421 c0_i32_400
  v422

def k0_off69 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_115 : BitVec 32 := 32#32
  let v123 : BitVec 32 := Scalar.muli v2 c32_i32_115
  let c0_i32_488 : BitVec 32 := 0#32
  ![v123.toNat, 0]
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_401 : BitVec 32 := 4#32
  let v423 : BitVec 1 := Scalar.cmpi .ne v2 c4_i32_401
  let v424 : BitVec 32 := Scalar.extui v423
  let c0_i32_403 : BitVec 32 := 0#32
  let v425 : BitVec 1 := Scalar.cmpi .ne v424 c0_i32_403
  v425

def k0_off70 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_116 : BitVec 32 := 32#32
  let v124 : BitVec 32 := Scalar.muli v2 c32_i32_116
  let c0_i32_488 : BitVec 32 := 0#32
  ![v124.toNat, 0]
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_404 : BitVec 32 := 5#32
  let v426 : BitVec 1 := Scalar.cmpi .ne v2 c5_i32_404
  let v427 : BitVec 32 := Scalar.extui v426
  let c0_i32_406 : BitVec 32 := 0#32
  let v428 : BitVec 1 := Scalar.cmpi .ne v427 c0_i32_406
  v428

def k0_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_117 : BitVec 32 := 32#32
  let v125 : BitVec 32 := Scalar.muli v2 c32_i32_117
  let c0_i32_488 : BitVec 32 := 0#32
  ![v125.toNat, 0]
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_407 : BitVec 32 := 6#32
  let v429 : BitVec 1 := Scalar.cmpi .ne v2 c6_i32_407
  let v430 : BitVec 32 := Scalar.extui v429
  let c0_i32_409 : BitVec 32 := 0#32
  let v431 : BitVec 1 := Scalar.cmpi .ne v430 c0_i32_409
  v431

def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_118 : BitVec 32 := 32#32
  let v126 : BitVec 32 := Scalar.muli v2 c32_i32_118
  let c0_i32_488 : BitVec 32 := 0#32
  ![v126.toNat, 0]
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_410 : BitVec 32 := 7#32
  let v432 : BitVec 1 := Scalar.cmpi .ne v2 c7_i32_410
  let v433 : BitVec 32 := Scalar.extui v432
  let c0_i32_412 : BitVec 32 := 0#32
  let v434 : BitVec 1 := Scalar.cmpi .ne v433 c0_i32_412
  v434

def k0_off73 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_119 : BitVec 32 := 32#32
  let v127 : BitVec 32 := Scalar.muli v2 c32_i32_119
  let c0_i32_488 : BitVec 32 := 0#32
  ![v127.toNat, 0]
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_413 : BitVec 32 := 8#32
  let v435 : BitVec 1 := Scalar.cmpi .ne v2 c8_i32_413
  let v436 : BitVec 32 := Scalar.extui v435
  let c0_i32_415 : BitVec 32 := 0#32
  let v437 : BitVec 1 := Scalar.cmpi .ne v436 c0_i32_415
  v437

def k0_off74 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_120 : BitVec 32 := 32#32
  let v128 : BitVec 32 := Scalar.muli v2 c32_i32_120
  let c0_i32_488 : BitVec 32 := 0#32
  ![v128.toNat, 0]
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_416 : BitVec 32 := 9#32
  let v438 : BitVec 1 := Scalar.cmpi .ne v2 c9_i32_416
  let v439 : BitVec 32 := Scalar.extui v438
  let c0_i32_418 : BitVec 32 := 0#32
  let v440 : BitVec 1 := Scalar.cmpi .ne v439 c0_i32_418
  v440

def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_121 : BitVec 32 := 32#32
  let v129 : BitVec 32 := Scalar.muli v2 c32_i32_121
  let c0_i32_488 : BitVec 32 := 0#32
  ![v129.toNat, 0]
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_419 : BitVec 32 := 10#32
  let v441 : BitVec 1 := Scalar.cmpi .ne v2 c10_i32_419
  let v442 : BitVec 32 := Scalar.extui v441
  let c0_i32_421 : BitVec 32 := 0#32
  let v443 : BitVec 1 := Scalar.cmpi .ne v442 c0_i32_421
  v443

def k0_off76 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_122 : BitVec 32 := 32#32
  let v130 : BitVec 32 := Scalar.muli v2 c32_i32_122
  let c0_i32_488 : BitVec 32 := 0#32
  ![v130.toNat, 0]
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_422 : BitVec 32 := 11#32
  let v444 : BitVec 1 := Scalar.cmpi .ne v2 c11_i32_422
  let v445 : BitVec 32 := Scalar.extui v444
  let c0_i32_424 : BitVec 32 := 0#32
  let v446 : BitVec 1 := Scalar.cmpi .ne v445 c0_i32_424
  v446

def k0_off77 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_123 : BitVec 32 := 32#32
  let v131 : BitVec 32 := Scalar.muli v2 c32_i32_123
  let c0_i32_488 : BitVec 32 := 0#32
  ![v131.toNat, 0]
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_425 : BitVec 32 := 12#32
  let v447 : BitVec 1 := Scalar.cmpi .ne v2 c12_i32_425
  let v448 : BitVec 32 := Scalar.extui v447
  let c0_i32_427 : BitVec 32 := 0#32
  let v449 : BitVec 1 := Scalar.cmpi .ne v448 c0_i32_427
  v449

def k0_off78 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_124 : BitVec 32 := 32#32
  let v132 : BitVec 32 := Scalar.muli v2 c32_i32_124
  let c0_i32_488 : BitVec 32 := 0#32
  ![v132.toNat, 0]
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_428 : BitVec 32 := 13#32
  let v450 : BitVec 1 := Scalar.cmpi .ne v2 c13_i32_428
  let v451 : BitVec 32 := Scalar.extui v450
  let c0_i32_430 : BitVec 32 := 0#32
  let v452 : BitVec 1 := Scalar.cmpi .ne v451 c0_i32_430
  v452

def k0_off79 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_125 : BitVec 32 := 32#32
  let v133 : BitVec 32 := Scalar.muli v2 c32_i32_125
  let c0_i32_488 : BitVec 32 := 0#32
  ![v133.toNat, 0]
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_431 : BitVec 32 := 14#32
  let v453 : BitVec 1 := Scalar.cmpi .ne v2 c14_i32_431
  let v454 : BitVec 32 := Scalar.extui v453
  let c0_i32_433 : BitVec 32 := 0#32
  let v455 : BitVec 1 := Scalar.cmpi .ne v454 c0_i32_433
  v455

def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_126 : BitVec 32 := 32#32
  let v134 : BitVec 32 := Scalar.muli v2 c32_i32_126
  let c0_i32_488 : BitVec 32 := 0#32
  ![v134.toNat, 0]
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_434 : BitVec 32 := 15#32
  let v456 : BitVec 1 := Scalar.cmpi .ne v2 c15_i32_434
  let v457 : BitVec 32 := Scalar.extui v456
  let c0_i32_436 : BitVec 32 := 0#32
  let v458 : BitVec 1 := Scalar.cmpi .ne v457 c0_i32_436
  v458

def k0_off81 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_127 : BitVec 32 := 32#32
  let v135 : BitVec 32 := Scalar.muli v2 c32_i32_127
  let c0_i32_488 : BitVec 32 := 0#32
  ![v135.toNat, 0]
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_437 : BitVec 32 := 16#32
  let v459 : BitVec 1 := Scalar.cmpi .ne v2 c16_i32_437
  let v460 : BitVec 32 := Scalar.extui v459
  let c0_i32_439 : BitVec 32 := 0#32
  let v461 : BitVec 1 := Scalar.cmpi .ne v460 c0_i32_439
  v461

def k0_off82 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_128 : BitVec 32 := 32#32
  let v136 : BitVec 32 := Scalar.muli v2 c32_i32_128
  let c0_i32_488 : BitVec 32 := 0#32
  ![v136.toNat, 0]
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_440 : BitVec 32 := 17#32
  let v462 : BitVec 1 := Scalar.cmpi .ne v2 c17_i32_440
  let v463 : BitVec 32 := Scalar.extui v462
  let c0_i32_442 : BitVec 32 := 0#32
  let v464 : BitVec 1 := Scalar.cmpi .ne v463 c0_i32_442
  v464

def k0_off83 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_129 : BitVec 32 := 32#32
  let v137 : BitVec 32 := Scalar.muli v2 c32_i32_129
  let c0_i32_488 : BitVec 32 := 0#32
  ![v137.toNat, 0]
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_443 : BitVec 32 := 18#32
  let v465 : BitVec 1 := Scalar.cmpi .ne v2 c18_i32_443
  let v466 : BitVec 32 := Scalar.extui v465
  let c0_i32_445 : BitVec 32 := 0#32
  let v467 : BitVec 1 := Scalar.cmpi .ne v466 c0_i32_445
  v467

def k0_off84 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_130 : BitVec 32 := 32#32
  let v138 : BitVec 32 := Scalar.muli v2 c32_i32_130
  let c0_i32_488 : BitVec 32 := 0#32
  ![v138.toNat, 0]
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_446 : BitVec 32 := 19#32
  let v468 : BitVec 1 := Scalar.cmpi .ne v2 c19_i32_446
  let v469 : BitVec 32 := Scalar.extui v468
  let c0_i32_448 : BitVec 32 := 0#32
  let v470 : BitVec 1 := Scalar.cmpi .ne v469 c0_i32_448
  v470

def k0_off85 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_131 : BitVec 32 := 32#32
  let v139 : BitVec 32 := Scalar.muli v2 c32_i32_131
  let c0_i32_488 : BitVec 32 := 0#32
  ![v139.toNat, 0]
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_449 : BitVec 32 := 20#32
  let v471 : BitVec 1 := Scalar.cmpi .ne v2 c20_i32_449
  let v472 : BitVec 32 := Scalar.extui v471
  let c0_i32_451 : BitVec 32 := 0#32
  let v473 : BitVec 1 := Scalar.cmpi .ne v472 c0_i32_451
  v473

def k0_off86 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_132 : BitVec 32 := 32#32
  let v140 : BitVec 32 := Scalar.muli v2 c32_i32_132
  let c0_i32_488 : BitVec 32 := 0#32
  ![v140.toNat, 0]
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_452 : BitVec 32 := 21#32
  let v474 : BitVec 1 := Scalar.cmpi .ne v2 c21_i32_452
  let v475 : BitVec 32 := Scalar.extui v474
  let c0_i32_454 : BitVec 32 := 0#32
  let v476 : BitVec 1 := Scalar.cmpi .ne v475 c0_i32_454
  v476

def k0_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_133 : BitVec 32 := 32#32
  let v141 : BitVec 32 := Scalar.muli v2 c32_i32_133
  let c0_i32_488 : BitVec 32 := 0#32
  ![v141.toNat, 0]
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_455 : BitVec 32 := 22#32
  let v477 : BitVec 1 := Scalar.cmpi .ne v2 c22_i32_455
  let v478 : BitVec 32 := Scalar.extui v477
  let c0_i32_457 : BitVec 32 := 0#32
  let v479 : BitVec 1 := Scalar.cmpi .ne v478 c0_i32_457
  v479

def k0_off88 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_134 : BitVec 32 := 32#32
  let v142 : BitVec 32 := Scalar.muli v2 c32_i32_134
  let c0_i32_488 : BitVec 32 := 0#32
  ![v142.toNat, 0]
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_458 : BitVec 32 := 23#32
  let v480 : BitVec 1 := Scalar.cmpi .ne v2 c23_i32_458
  let v481 : BitVec 32 := Scalar.extui v480
  let c0_i32_460 : BitVec 32 := 0#32
  let v482 : BitVec 1 := Scalar.cmpi .ne v481 c0_i32_460
  v482

def k0_off89 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_135 : BitVec 32 := 32#32
  let v143 : BitVec 32 := Scalar.muli v2 c32_i32_135
  let c0_i32_488 : BitVec 32 := 0#32
  ![v143.toNat, 0]
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_461 : BitVec 32 := 24#32
  let v483 : BitVec 1 := Scalar.cmpi .ne v2 c24_i32_461
  let v484 : BitVec 32 := Scalar.extui v483
  let c0_i32_463 : BitVec 32 := 0#32
  let v485 : BitVec 1 := Scalar.cmpi .ne v484 c0_i32_463
  v485

def k0_off90 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_136 : BitVec 32 := 32#32
  let v144 : BitVec 32 := Scalar.muli v2 c32_i32_136
  let c0_i32_488 : BitVec 32 := 0#32
  ![v144.toNat, 0]
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_464 : BitVec 32 := 25#32
  let v486 : BitVec 1 := Scalar.cmpi .ne v2 c25_i32_464
  let v487 : BitVec 32 := Scalar.extui v486
  let c0_i32_466 : BitVec 32 := 0#32
  let v488 : BitVec 1 := Scalar.cmpi .ne v487 c0_i32_466
  v488

def k0_off91 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_137 : BitVec 32 := 32#32
  let v145 : BitVec 32 := Scalar.muli v2 c32_i32_137
  let c0_i32_488 : BitVec 32 := 0#32
  ![v145.toNat, 0]
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_467 : BitVec 32 := 26#32
  let v489 : BitVec 1 := Scalar.cmpi .ne v2 c26_i32_467
  let v490 : BitVec 32 := Scalar.extui v489
  let c0_i32_469 : BitVec 32 := 0#32
  let v491 : BitVec 1 := Scalar.cmpi .ne v490 c0_i32_469
  v491

def k0_off92 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_138 : BitVec 32 := 32#32
  let v146 : BitVec 32 := Scalar.muli v2 c32_i32_138
  let c0_i32_488 : BitVec 32 := 0#32
  ![v146.toNat, 0]
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_470 : BitVec 32 := 27#32
  let v492 : BitVec 1 := Scalar.cmpi .ne v2 c27_i32_470
  let v493 : BitVec 32 := Scalar.extui v492
  let c0_i32_472 : BitVec 32 := 0#32
  let v494 : BitVec 1 := Scalar.cmpi .ne v493 c0_i32_472
  v494

def k0_off93 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_139 : BitVec 32 := 32#32
  let v147 : BitVec 32 := Scalar.muli v2 c32_i32_139
  let c0_i32_488 : BitVec 32 := 0#32
  ![v147.toNat, 0]
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_473 : BitVec 32 := 28#32
  let v495 : BitVec 1 := Scalar.cmpi .ne v2 c28_i32_473
  let v496 : BitVec 32 := Scalar.extui v495
  let c0_i32_475 : BitVec 32 := 0#32
  let v497 : BitVec 1 := Scalar.cmpi .ne v496 c0_i32_475
  v497

def k0_off94 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_140 : BitVec 32 := 32#32
  let v148 : BitVec 32 := Scalar.muli v2 c32_i32_140
  let c0_i32_488 : BitVec 32 := 0#32
  ![v148.toNat, 0]
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_476 : BitVec 32 := 29#32
  let v498 : BitVec 1 := Scalar.cmpi .ne v2 c29_i32_476
  let v499 : BitVec 32 := Scalar.extui v498
  let c0_i32_478 : BitVec 32 := 0#32
  let v500 : BitVec 1 := Scalar.cmpi .ne v499 c0_i32_478
  v500

def k0_off95 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_141 : BitVec 32 := 32#32
  let v149 : BitVec 32 := Scalar.muli v2 c32_i32_141
  let c0_i32_488 : BitVec 32 := 0#32
  ![v149.toNat, 0]
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_479 : BitVec 32 := 30#32
  let v501 : BitVec 1 := Scalar.cmpi .ne v2 c30_i32_479
  let v502 : BitVec 32 := Scalar.extui v501
  let c0_i32_481 : BitVec 32 := 0#32
  let v503 : BitVec 1 := Scalar.cmpi .ne v502 c0_i32_481
  v503

def k0_off96 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_142 : BitVec 32 := 32#32
  let v150 : BitVec 32 := Scalar.muli v2 c32_i32_142
  let c0_i32_488 : BitVec 32 := 0#32
  ![v150.toNat, 0]
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_482 : BitVec 32 := 31#32
  let v504 : BitVec 1 := Scalar.cmpi .ne v2 c31_i32_482
  let v505 : BitVec 32 := Scalar.extui v504
  let c0_i32_484 : BitVec 32 := 0#32
  let v506 : BitVec 1 := Scalar.cmpi .ne v505 c0_i32_484
  v506

def k0_off97 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_143 : BitVec 32 := 32#32
  let v151 : BitVec 32 := Scalar.muli v2 c32_i32_143
  let c0_i32_488 : BitVec 32 := 0#32
  ![v151.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16384x256 : Shape := ⟨2, ![16384, 256]⟩
abbrev S1x16384 : Shape := ⟨2, ![1, 16384]⟩
abbrev S16384 : Shape := ⟨1, ![16384]⟩
abbrev S_ : Shape := ⟨0, ![]⟩
abbrev S16384x1 : Shape := ⟨2, ![16384, 1]⟩
abbrev S32 : Shape := ⟨1, ![32]⟩
abbrev S32x1 : Shape := ⟨2, ![32, 1]⟩
abbrev S32x16384 : Shape := ⟨2, ![32, 16384]⟩
abbrev S512 : Shape := ⟨1, ![512]⟩
abbrev S1x512 : Shape := ⟨2, ![1, 512]⟩
abbrev S32x512 : Shape := ⟨2, ![32, 512]⟩
abbrev S32x512x1 : Shape := ⟨3, ![32, 512, 1]⟩
abbrev S32x512x256 : Shape := ⟨3, ![32, 512, 256]⟩

abbrev nBuf : Space → Nat
  | .hbm => 67
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1x16384, .i32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S16384x256, .f32⟩
  | .hbm, ⟨15, _⟩ => ⟨S32, .i32⟩
  | .hbm, ⟨16, _⟩ => ⟨S1x16384, .i32⟩
  | .hbm, ⟨17, _⟩ => ⟨S32x1, .i32⟩
  | .hbm, ⟨18, _⟩ => ⟨S32x16384, .i32⟩
  | .hbm, ⟨19, _⟩ => ⟨S32x16384, .i32⟩
  | .hbm, ⟨20, _⟩ => ⟨S32x16384, .i1⟩
  | .hbm, ⟨21, _⟩ => ⟨S32x16384, .i32⟩
  | .hbm, ⟨22, _⟩ => ⟨S_, .i32⟩
  | .hbm, ⟨23, _⟩ => ⟨S32, .i32⟩
  | .hbm, ⟨24, _⟩ => ⟨S1x16384, .i32⟩
  | .hbm, ⟨25, _⟩ => ⟨S32x1, .i32⟩
  | .hbm, ⟨26, _⟩ => ⟨S32x16384, .i32⟩
  | .hbm, ⟨27, _⟩ => ⟨S32x16384, .i32⟩
  | .hbm, ⟨28, _⟩ => ⟨S32x16384, .i1⟩
  | .hbm, ⟨29, _⟩ => ⟨S32x16384, .i32⟩
  | .hbm, ⟨30, _⟩ => ⟨S_, .i32⟩
  | .hbm, ⟨31, _⟩ => ⟨S32, .i32⟩
  | .hbm, ⟨32, _⟩ => ⟨S512, .i32⟩
  | .hbm, ⟨33, _⟩ => ⟨S32x1, .i32⟩
  | .hbm, ⟨34, _⟩ => ⟨S1x512, .i32⟩
  | .hbm, ⟨35, _⟩ => ⟨S32x512, .i32⟩
  | .hbm, ⟨36, _⟩ => ⟨S32x512, .i32⟩
  | .hbm, ⟨37, _⟩ => ⟨S32x512, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S32x512, .i32⟩
  | .hbm, ⟨42, _⟩ => ⟨S32x512, .i32⟩
  | .hbm, ⟨43, _⟩ => ⟨S_, .i32⟩
  | .hbm, ⟨44, _⟩ => ⟨S32x512, .i32⟩
  | .hbm, ⟨45, _⟩ => ⟨S32x512, .i32⟩
  | .hbm, ⟨46, _⟩ => ⟨S1x512, .i32⟩
  | .hbm, ⟨47, _⟩ => ⟨S32x1, .i32⟩
  | .hbm, ⟨48, _⟩ => ⟨S32x512, .i32⟩
  | .hbm, ⟨49, _⟩ => ⟨S32x512, .i32⟩
  | .hbm, ⟨50, _⟩ => ⟨S32x512, .i1⟩
  | .hbm, ⟨51, _⟩ => ⟨S32x512x1, .i1⟩
  | .hbm, ⟨52, _⟩ => ⟨S_, .i32⟩
  | .hbm, ⟨53, _⟩ => ⟨S32x512, .i32⟩
  | .hbm, ⟨54, _⟩ => ⟨S32x512, .i1⟩
  | .hbm, ⟨55, _⟩ => ⟨S_, .i32⟩
  | .hbm, ⟨56, _⟩ => ⟨S32x512, .i32⟩
  | .hbm, ⟨57, _⟩ => ⟨S32x512, .i32⟩
  | .hbm, ⟨58, _⟩ => ⟨S32x512, .i32⟩
  | .hbm, ⟨59, _⟩ => ⟨S32x512x1, .i32⟩
  | .hbm, ⟨60, _⟩ => ⟨S32x512x256, .f32⟩
  | .hbm, ⟨61, _⟩ => ⟨S_, .f32⟩
  | .hbm, ⟨62, _⟩ => ⟨S_, .f32⟩
  | .hbm, ⟨63, _⟩ => ⟨S32x512x256, .i1⟩
  | .hbm, ⟨64, _⟩ => ⟨S32x512x256, .f32⟩
  | .hbm, ⟨65, _⟩ => ⟨S32x512x256, .f32⟩
  | .hbm, ⟨66, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_3 : Ref sig .tc := ⟨.hbm, 38, rfl⟩
abbrev main_c_4 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== Proof.Protocol.lean ====
/-
# The exchange's protocol

Every device packs its rows by destination into its send buffer (thirty-two blocks of thirty-two rows), signals every
device's barrier semaphore once, waits for thirty-two signals on its own, copies block `e` of its send buffer into block
`c` of device `e`'s landing buffer, waits for the thirty-one copies into its own landing buffer, compacts it, and waits
for its own copies to have been read.

Semaphores, each used for one round:
* `barCell c` (the runtime's barrier semaphore on device `c`): device `d` (every `d`, `c` too) signals one unit; `c` waits
  for thirty-two. The signal of `d ≠ c` hands over block `c` of `d`'s landing buffer, at whatever contents: what `c`'s copy
  to `d` needs. The signal of `c` itself hands over nothing.
* `recvCell c s`, `s ≠ c`: device `s`'s copy pays the block's credit; `c` waits for it. It hands over block `s` of `c`'s
  landing buffer, holding block `c` of `s`'s send buffer.
* `sendCell c e`, `e ≠ c`: device `c`'s copy to `e` pays the block's credit; `c` waits for it. It hands back block `e` of
  `c`'s send buffer.
* `recvCell c c`, `sendCell c c`: never used.

A device owes, at launch, one unit to every barrier cell and a block's credit to cell `recvCell d c` of each other `d`.
Barrier cells sit at level 1, receive cells at level 2, the rest at 0.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the exchange's (duties named by devices) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

theorem dlt (e : Dev nD) : e.val < 32 := e.isLt

/-! ## The memrefs -/

abbrev xM : Memref sig .tc .vmem S512x256 .f32 := Memref.whole cc0_stg0_0
abbrev dM : Memref sig .tc .vmem S1x512 .i32 := Memref.whole cc0_stg1_0
abbrev oM : Memref sig .tc .vmem S512x256 .f32 := Memref.whole cc0_stg2_0
abbrev sM : Memref sig .tc .vmem S1024x256 .f32 := Memref.whole cc0_scratch0
abbrev rM : Memref sig .tc .vmem S1024x256 .f32 := Memref.whole cc0_scratch1

theorem inbRows (e : Dev nD) : ∀ a, (![32 * e.val, 0] : Fin 2 → Nat) a + S32x256.size a ≤ S1024x256.size a := by
  revert e; decide

/-- The rows `32 e … 32 e + 31`, every column. -/
abbrev rows (e : Dev nD) : Rect S1024x256 := Rect.unit (s := S1024x256) ![32 * e.val, 0] S32x256.size (inbRows e)

/-- Block `e` of the send buffer, block `e` of the landing buffer. -/
abbrev sSlot (e : Dev nD) : Memref sig .tc .vmem S32x256 .f32 := sM.slice (rows e) (fun _ => rfl)
abbrev rSlot (e : Dev nD) : Memref sig .tc .vmem S32x256 .f32 := rM.slice (rows e) (fun _ => rfl)

theorem mem_rows {e : Dev nD} {i : S1024x256.Idx} : Iff (i ∈ (rows e).set) ((i 0).val / 32 = e.val) := by
  rw [Rect.mem_set_unit]
  constructor
  · intro h
    have h0 : 32 * e.val ≤ (i 0).val ∧ (i 0).val < 32 * e.val + 32 := h 0
    omega
  · intro h
    have h1 : (i 1).val < 256 := (i 1).isLt
    refine Fin.forall_fin_two.mpr ⟨?_, ?_⟩
    · show 32 * e.val ≤ (i 0).val ∧ (i 0).val < 32 * e.val + 32
      omega
    · show 0 ≤ (i 1).val ∧ (i 1).val < 0 + 256
      omega

theorem rows_disjoint (S : Finset (Dev nD)) : ∀ e ∈ S, ∀ e' ∈ S, e ≠ e' → Disjoint (rows e).set (rows e').set := by
  intro e _ e' _ h
  rw [Finset.disjoint_left]
  intro i hi hi'
  exact h (Fin.ext ((mem_rows.mp hi).symm.trans (mem_rows.mp hi')))

/-- The block a row of the buffer lies in. -/
def blockOf (i : S1024x256.Idx) : Dev nD := ⟨(i 0).val / 32, by have : (i 0).val < 1024 := (i 0).isLt; show _ < 32; omega⟩

theorem rows_cover : (Finset.univ.biUnion fun e : Dev nD => (rows e).set) = (Finset.univ : Finset S1024x256.Idx) := by
  ext i
  exact ⟨fun _ => Finset.mem_univ _, fun _ => Finset.mem_biUnion.mpr ⟨blockOf i, Finset.mem_univ _, mem_rows.mpr rfl⟩⟩

/-! ## The semaphores -/

/-- The runtime's barrier semaphore of collective id 0 (unscoped). -/
abbrev barS : Sem sig := (SemArray.scalar (sig.barrier 0 rfl) : Sems sig S_).sem

/-- The DMA semaphore that device's copy to `e` signals when its source is read; the one device `s`'s copy lands on. -/
def sendQ (e : Dev nD) : DmaSem sig := ⟨3 + e.val, by have := dlt e; show _ < 67; omega⟩
def recvQ (s : Dev nD) : DmaSem sig := ⟨35 + s.val, by have := dlt s; show _ < 67; omega⟩

/-- The cells of one device: its barrier cell, its send cells, its receive cells. -/
abbrev CK : Type := Unit ⊕ (Dev nD ⊕ Dev nD)

def csem : CK → SemLoc sig
  | .inl _ => .reg barS
  | .inr (.inl e) => .dma (sendQ e)
  | .inr (.inr s) => .dma (recvQ s)

/-- Which of a device's cells a semaphore is. -/
def dmaKind (q : DmaSem sig) : Option CK :=
  if h : q.val < 3 then none
  else if h' : q.val < 35 then some (.inr (.inl ⟨q.val - 3, by show _ < 32; omega⟩))
  else some (.inr (.inr ⟨q.val - 35, by have : q.val < 67 := q.isLt; show _ < 32; omega⟩))

def regKind (s : Sem sig) : Option CK := if s = barS then some (.inl ()) else none

def kindOf : SemLoc sig → Option CK
  | .reg s => regKind s
  | .dma q => dmaKind q

theorem dmaKind_send (e : Dev nD) : dmaKind (sendQ e) = some (.inr (.inl e)) := by
  have := dlt e
  have h1 : ¬ (sendQ e).val < 3 := by show ¬ 3 + e.val < 3; omega
  have h2 : (sendQ e).val < 35 := by show 3 + e.val < 35; omega
  unfold dmaKind
  rw [dif_neg h1, dif_pos h2]
  exact congrArg (fun d : Dev nD => some (Sum.inr (Sum.inl d))) (Fin.ext (by show 3 + e.val - 3 = e.val; omega))

theorem dmaKind_recv (s : Dev nD) : dmaKind (recvQ s) = some (.inr (.inr s)) := by
  have := dlt s
  have h1 : ¬ (recvQ s).val < 3 := by show ¬ 35 + s.val < 3; omega
  have h2 : ¬ (recvQ s).val < 35 := by show ¬ 35 + s.val < 35; omega
  unfold dmaKind
  rw [dif_neg h1, dif_neg h2]
  exact congrArg (fun d : Dev nD => some (Sum.inr (Sum.inr d))) (Fin.ext (by show 35 + s.val - 35 = s.val; omega))

theorem regKind_bar : regKind barS = some (.inl ()) := if_pos rfl

theorem kindOf_csem (k : CK) : kindOf (csem k) = some k := by
  rcases k with u | e | s
  · cases u; exact regKind_bar
  · exact dmaKind_send e
  · exact dmaKind_recv s

theorem csem_injective : Function.Injective csem := fun k k' h => by
  have := congrArg kindOf h
  rw [kindOf_csem, kindOf_csem] at this
  exact Option.some.inj this

abbrev kcell (ck : Dev nD × CK) : GSem nD τ sig := ((ck.1 : Thread nD τ), csem ck.2)
abbrev barCell (c : Dev nD) : GSem nD τ sig := ((c : Thread nD τ), .reg barS)
abbrev sendCell (c e : Dev nD) : GSem nD τ sig := ((c : Thread nD τ), .dma (sendQ e))
abbrev recvCell (c s : Dev nD) : GSem nD τ sig := ((c : Thread nD τ), .dma (recvQ s))

theorem kcell_injective : Function.Injective (kcell : Dev nD × CK → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]

/-- The semaphores as the program writes them: entry `e` of the array of thirty-two. -/
theorem sem_send (e : Dev nD) {o : Fin 1 → Nat} {h} (ho : o = ![e.val]) :
    ((cc0_scratch2.slice (Rect.unit (s := S32) o S1.size h)).squeeze S_ squeezes_S1_S_).sem = sendQ e := by
  subst ho; revert e; decide
theorem sem_recv (e : Dev nD) {o : Fin 1 → Nat} {h} (ho : o = ![e.val]) :
    ((cc0_scratch3.slice (Rect.unit (s := S32) o S1.size h)).squeeze S_ squeezes_S1_S_).sem = recvQ e := by
  subst ho; revert e; decide

/-- A block's credit. -/
abbrev N : ℕ := (rSlot 0).view.dmaCredit
theorem N_pos : 0 < N := View.dmaCredit_pos _ (by decide)

/-! ## Contents -/

/-- Device `c`'s rows and destinations, as staged. -/
def xstg (c : Dev nD) : (cc0_stg0_0 : Ref sig .tc).ty.Contents (Elt F) :=
  (win0_0.blk (0 : Fin 1)).view.read (Elt F) (m ((c : Thread nD τ).loc main_arg0))
def dstg (c : Dev nD) : (cc0_stg1_0 : Ref sig .tc).ty.Contents (Elt F) :=
  (win0_1.blk (0 : Fin 1)).view.read (Elt F) (m ((c : Thread nD τ).loc main_arg1))

/-- Device `c`'s send buffer, packed. -/
def sendBuf (c : Dev nD) : Buf (Elt F) ((c : Thread nD τ).loc cc0_scratch0) :=
  (k0_pay7 (k0_pay1 (xstg m c)) (k0_pay4 (dstg m c)) (k0_pay5 (dstg m c)) k0_pay6 : Vec F S1024x256 .f32)

/-- The row of a send buffer that row `i` of device `c`'s landing buffer receives. -/
def srcRow (c : Dev nD) (i : S1024x256.Idx) : S1024x256.Idx :=
  fun a => match a with
  | 0 => ⟨32 * c.val + (i 0).val % 32, by have := dlt c; show _ < 1024; omega⟩
  | 1 => i 1

/-- Device `c`'s landing buffer, every copy landed: block `s` is block `c` of device `s`'s send buffer. -/
def landedBuf (c : Dev nD) : Buf (Elt F) ((c : Thread nD τ).loc cc0_scratch1) :=
  fun i => (sendBuf m (blockOf i) : Vec F S1024x256 .f32) (srcRow c i)

/-- Device `c`'s result. -/
def outAt (c : Dev nD) : (cc0_stg2_0 : Ref sig .tc).ty.Contents (Elt F) :=
  k0_pay13 (landedBuf m c) (k0_pay9 (landedBuf m c)) (k0_pay10 (landedBuf m c)) k0_pay11 k0_pay12 1#32

/-! ## The blocks held -/

def sPts (c e : Dev nD) (f : Buf (Elt F) ((c : Thread nD τ).loc cc0_scratch0)) : sProp 𝕄 :=
  (((c : Thread nD τ).loc cc0_scratch0) ↦[(rows e).set]{fullShare} f)
def rPts (c s : Dev nD) (f : Buf (Elt F) ((c : Thread nD τ).loc cc0_scratch1)) : sProp 𝕄 :=
  (((c : Thread nD τ).loc cc0_scratch1) ↦[(rows s).set]{fullShare} f)

instance sPts_storable (c e : Dev nD) (f) : BI.Storable (upEmb : UEmb _ 𝕄) (sPts (F := F) c e f) := by unfold sPts; infer_instance
instance rPts_storable (c s : Dev nD) (f) : BI.Storable (upEmb : UEmb _ 𝕄) (rPts (F := F) c s f) := by unfold rPts; infer_instance

theorem sSlot_set (e : Dev nD) : (sSlot e).view.set = (rows e).set := View.set_slice_whole cc0_scratch0 (rows e)
theorem rSlot_set (e : Dev nD) : (rSlot e).view.set = (rows e).set := View.set_slice_whole cc0_scratch1 (rows e)

theorem sPts_eq (c e : Dev nD) (f : Buf (Elt F) ((c : Thread nD τ).loc cc0_scratch0)) :
    (sPts c e f : sProp 𝕄) = ((sSlot e).view.loc (c : Thread nD τ) ↦[(sSlot e).view.set]{fullShare} f) := by
  unfold sPts; rw [sSlot_set]
theorem rPts_eq (c s : Dev nD) (f : Buf (Elt F) ((c : Thread nD τ).loc cc0_scratch1)) :
    (rPts c s f : sProp 𝕄) = ((rSlot s).view.loc (c : Thread nD τ) ↦[(rSlot s).view.set]{fullShare} f) := by
  unfold rPts; rw [rSlot_set]

theorem sPts_all (c : Dev nD) (f : Buf (Elt F) ((c : Thread nD τ).loc cc0_scratch0)) :
    (((c : Thread nD τ).loc cc0_scratch0) ↦{fullShare} f : sProp 𝕄) = bigSep Finset.univ fun e => sPts c e f := by
  unfold sPts
  refine Eq.trans ?_ (pointsTo_biUnion (ℓ := (c : Thread nD τ).loc cc0_scratch0) (f := f) Finset.univ
    (fun e : Dev nD => (rows e).set) (rows_disjoint _))
  exact congrArg (fun S => (((c : Thread nD τ).loc cc0_scratch0) ↦[S]{fullShare} f : sProp 𝕄)) rows_cover.symm
theorem rPts_all (c : Dev nD) (f : Buf (Elt F) ((c : Thread nD τ).loc cc0_scratch1)) :
    (((c : Thread nD τ).loc cc0_scratch1) ↦{fullShare} f : sProp 𝕄) = bigSep Finset.univ fun s => rPts c s f := by
  unfold rPts
  refine Eq.trans ?_ (pointsTo_biUnion (ℓ := (c : Thread nD τ).loc cc0_scratch1) (f := f) Finset.univ
    (fun e : Dev nD => (rows e).set) (rows_disjoint _))
  exact congrArg (fun S => (((c : Thread nD τ).loc cc0_scratch1) ↦[S]{fullShare} f : sProp 𝕄)) rows_cover.symm

/-- The copy of device `c`'s block `e` into block `c` of device `e`'s landing buffer leaves that block as `landedBuf e` has it. -/
theorem landed_copy (c e : Dev nD) (fd : Buf (Elt F) ((e : Thread nD τ).loc cc0_scratch1)) :
    ∀ i ∈ (rows c).set, (rSlot c).view.write (Elt F) fd ((sSlot e).view.read (Elt F) (sendBuf m c)) Finset.univ i = landedBuf m e i := by
  intro i hi
  rw [← rSlot_set] at hi
  obtain ⟨x, -, rfl⟩ := Finset.mem_map.mp hi
  refine (View.write_emb_of_mem (Val := Elt F) (v := (rSlot c).view) fd _ (Finset.mem_univ x)).trans ?_
  have h0 : (x 0).val < 32 := (x 0).isLt
  have hb : blockOf ((rSlot c).view.emb x) = c := Fin.ext (by
    show (32 * c.val + 1 * (x 0).val) / 32 = c.val
    omega)
  unfold landedBuf
  rw [hb]
  show sendBuf m c _ = sendBuf m c _
  congr 1
  funext a
  fin_cases a
  · refine Fin.ext ?_
    show 32 * e.val + 1 * (x 0).val = 32 * e.val + (32 * c.val + 1 * (x 0).val) % 32
    omega
  · rfl

end Cert.Exchange

end
-- ==== Proof.Schedule.lean ====
/-
# The exchange's schedule of duties

The protocol of Protocol.lean as a schedule of the rounds library: duties are named by devices; each used cell has one
round. Here also what each device owes at launch, the levels, and that every wait sits below what its waiter owes.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule -/

/-- What the signal of device `d` on `c`'s barrier hands over: block `c` of `d`'s landing buffer (nothing if `d = c`). -/
def barPay (c d : Dev nD) : sProp 𝕄 := if d = c then iprop(emp) else iprop(∃ f, rPts d c f)

def payOf (c : Dev nD) (k : Option CK) (d : Dev nD) : sProp 𝕄 := match k with
  | some (.inl _) => barPay c d
  | some (.inr (.inl e)) => sPts c e (sendBuf m c)
  | some (.inr (.inr s)) => rPts c s (landedBuf m c)
  | none => iprop(emp)

def dutiesOf (c : Dev nD) : Option CK → Finset (Dev nD)
  | some (.inl _) => Finset.univ
  | some (.inr (.inl e)) => if e = c then ∅ else {0}
  | some (.inr (.inr s)) => if s = c then ∅ else {0}
  | none => ∅

def amountOf : Option CK → ℕ
  | some (.inl _) => 1
  | _ => N

theorem amountOf_pos (k) : 0 < amountOf k := by
  rcases k with _ | _ | _ | _
  · exact N_pos
  · exact Nat.one_pos
  · exact N_pos
  · exact N_pos

instance barPay_storable (c d : Dev nD) : BI.Storable (upEmb : UEmb _ 𝕄) (barPay (F := F) c d) := by
  unfold barPay; split <;> infer_instance
instance payOf_storable (c : Dev nD) (k) (d : Dev nD) : BI.Storable (upEmb : UEmb _ 𝕄) (payOf m c k d) := by
  unfold payOf; split <;> infer_instance

def sched : Rounds.Schedule (GSem nD τ sig) (Dev nD) 𝕄 where
  duties g r := if r = 0 then dutiesOf g.1.1 (kindOf g.2) else ∅
  unitless _ := False
  amount g _ _ := amountOf (kindOf g.2)
  payload g _ d := payOf m g.1.1 (kindOf g.2) d
  amount_pos g _ _ _ := amountOf_pos _

instance sched_payload_storable (g : GSem nD τ sig) (r : ℕ) (d : Dev nD) :
    BI.Storable (upEmb : UEmb _ 𝕄) ((sched (F := F) m).payload g r d) := by
  show BI.Storable upEmb (payOf m g.1.1 (kindOf g.2) d)
  infer_instance

theorem duties_cell (c : Dev nD) (k : CK) : (sched (F := F) m).duties (kcell (c, k)) 0 = dutiesOf c (some k) := by
  show (if 0 = 0 then dutiesOf c (kindOf (csem k)) else ∅) = _
  rw [if_pos rfl, kindOf_csem]
theorem duties_later (g : GSem nD τ sig) : ∀ r, 1 ≤ r → (sched (F := F) m).duties g r = ∅ := fun r hr => by
  show (if r = 0 then _ else ∅) = _
  rw [if_neg (by omega)]
theorem amount_cell (c : Dev nD) (k : CK) (d) : (sched (F := F) m).amount (kcell (c, k)) 0 d = amountOf (some k) := by
  show amountOf (kindOf (csem k)) = _
  rw [kindOf_csem]
theorem payload_cell (c : Dev nD) (k : CK) (d) : (sched (F := F) m).payload (kcell (c, k)) 0 d = payOf m c (some k) d := by
  show payOf m c (kindOf (csem k)) d = _
  rw [kindOf_csem]

theorem duties_barCell (c : Dev nD) : (sched (F := F) m).duties (barCell c) 0 = Finset.univ := duties_cell m c (.inl ())
theorem duties_sendCell (c e : Dev nD) : (sched (F := F) m).duties (sendCell c e) 0 = if e = c then ∅ else {0} := duties_cell m c (.inr (.inl e))
theorem duties_recvCell (c s : Dev nD) : (sched (F := F) m).duties (recvCell c s) 0 = if s = c then ∅ else {0} := duties_cell m c (.inr (.inr s))
theorem amount_bar (c d : Dev nD) : (sched (F := F) m).amount (barCell c) 0 d = 1 := amount_cell m c (.inl ()) d
theorem amount_send (c e d : Dev nD) : (sched (F := F) m).amount (sendCell c e) 0 d = N := amount_cell m c (.inr (.inl e)) d
theorem amount_recv (c s d : Dev nD) : (sched (F := F) m).amount (recvCell c s) 0 d = N := amount_cell m c (.inr (.inr s)) d
theorem payload_bar (c d : Dev nD) : (sched (F := F) m).payload (barCell c) 0 d = barPay c d := payload_cell m c (.inl ()) d
theorem payload_send (c e d : Dev nD) : (sched (F := F) m).payload (sendCell c e) 0 d = sPts c e (sendBuf m c) := payload_cell m c (.inr (.inl e)) d
theorem payload_recv (c s d : Dev nD) : (sched (F := F) m).payload (recvCell c s) 0 d = rPts c s (landedBuf m c) := payload_cell m c (.inr (.inr s)) d
theorem duties_bar (c d : Dev nD) : d ∈ (sched (F := F) m).duties (barCell c) 0 := by
  rw [duties_barCell]; exact Finset.mem_univ _
theorem duties_send {c e : Dev nD} (h : e ≠ c) : (sched (F := F) m).duties (sendCell c e) 0 = {0} := by
  rw [duties_sendCell]; exact if_neg h
theorem duties_recv {c s : Dev nD} (h : s ≠ c) : (sched (F := F) m).duties (recvCell c s) 0 = {0} := by
  rw [duties_recvCell]; exact if_neg h
theorem duties_send_own (c : Dev nD) : ∀ r, 0 ≤ r → (sched (F := F) m).duties (sendCell c c) r = ∅ := fun r _ => by
  rcases Nat.eq_zero_or_pos r with rfl | h
  · rw [duties_sendCell]; exact if_pos rfl
  · exact duties_later m _ r h
theorem duties_recv_own (c : Dev nD) : ∀ r, 0 ≤ r → (sched (F := F) m).duties (recvCell c c) r = ∅ := fun r _ => by
  rcases Nat.eq_zero_or_pos r with rfl | h
  · rw [duties_recvCell]; exact if_pos rfl
  · exact duties_later m _ r h

theorem expect_bar (c : Dev nD) : (sched (F := F) m).expect (barCell c) 0 = 32 := by
  unfold Schedule.expect Schedule.amountOf
  rw [duties_barCell, Finset.sum_congr rfl fun d _ => amount_bar m c d]
  show ∑ d : Dev nD, 1 = 32
  rw [Finset.sum_const, Finset.card_univ, Fintype.card_fin, smul_eq_mul]; rfl
theorem expect_send {c e : Dev nD} (h : e ≠ c) : (sched (F := F) m).expect (sendCell c e) 0 = N := by
  unfold Schedule.expect Schedule.amountOf
  rw [duties_send m h, Finset.sum_singleton, amount_send]
theorem expect_recv {c s : Dev nD} (h : s ≠ c) : (sched (F := F) m).expect (recvCell c s) 0 = N := by
  unfold Schedule.expect Schedule.amountOf
  rw [duties_recv m h, Finset.sum_singleton, amount_recv]

theorem rest_bar (c : Dev nD) :
    bigSep ((sched (F := F) m).duties (barCell c) 0 \ ∅) (fun d => (sched (F := F) m).payload (barCell c) 0 d)
      = bigSep Finset.univ (fun d => barPay (F := F) c d) := by
  rw [Finset.sdiff_empty, duties_barCell]
  exact bigSep_congr fun d _ => payload_bar m c d
theorem rest_send {c e : Dev nD} (h : e ≠ c) :
    bigSep ((sched (F := F) m).duties (sendCell c e) 0 \ ∅) (fun d => (sched (F := F) m).payload (sendCell c e) 0 d)
      = sPts c e (sendBuf m c) := by
  rw [Finset.sdiff_empty, duties_send m h, bigSep_singleton, payload_send]
theorem rest_recv {c s : Dev nD} (h : s ≠ c) :
    bigSep ((sched (F := F) m).duties (recvCell c s) 0 \ ∅) (fun d => (sched (F := F) m).payload (recvCell c s) 0 d)
      = rPts c s (landedBuf m c) := by
  rw [Finset.sdiff_empty, duties_recv m h, bigSep_singleton, payload_recv]

/-! ## What a device owes, from device `n` on -/

/-- The devices from `n` on; those before `n`. -/
def todo (n : ℕ) : Finset (Dev nD) := Finset.univ.filter fun e => n ≤ e.val
def done (n : ℕ) : Finset (Dev nD) := Finset.univ.filter fun e => e.val < n

theorem todo_zero : todo 0 = Finset.univ := Finset.filter_true_of_mem fun _ _ => Nat.zero_le _
theorem done_zero : done 0 = ∅ := Finset.filter_false_of_mem fun _ _ => Nat.not_lt_zero _
theorem todo_end : todo 32 = ∅ := Finset.filter_false_of_mem fun e _ => Nat.not_le.mpr (dlt e)
theorem done_end : done 32 = Finset.univ := Finset.filter_true_of_mem fun e _ => dlt e
theorem not_mem_todo {n : ℕ} {e : Dev nD} (h : e.val = n) : e ∉ todo (n + 1) := by
  unfold todo; rw [Finset.mem_filter]; intro h'; omega
theorem not_mem_done {n : ℕ} {e : Dev nD} (h : e.val = n) : e ∉ done n := by
  unfold done; rw [Finset.mem_filter]; intro h'; omega
theorem todo_step {n : ℕ} {e : Dev nD} (h : e.val = n) : todo n = insert e (todo (n + 1)) := by
  ext d
  unfold todo
  rw [Finset.mem_insert, Finset.mem_filter, Finset.mem_filter]
  simp only [Finset.mem_univ, true_and]
  constructor
  · intro h'
    rcases Nat.lt_or_ge n d.val with h1 | h1
    · exact Or.inr h1
    · exact Or.inl (Fin.ext (by omega))
  · rintro (rfl | h')
    · omega
    · omega
theorem done_step {n : ℕ} {e : Dev nD} (h : e.val = n) : done (n + 1) = insert e (done n) := by
  ext d
  unfold done
  rw [Finset.mem_insert, Finset.mem_filter, Finset.mem_filter]
  simp only [Finset.mem_univ, true_and]
  constructor
  · intro h'
    rcases Nat.lt_or_ge d.val n with h1 | h1
    · exact Or.inr h1
    · exact Or.inl (Fin.ext (by omega))
  · rintro (rfl | h')
    · omega
    · omega

theorem bigSep_todo {n : ℕ} {e : Dev nD} (h : e.val = n) (Φ : Dev nD → sProp 𝕄) :
    bigSep (todo n) Φ = iprop(Φ e ∗ bigSep (todo (n + 1)) Φ) := by
  rw [todo_step h, bigSep_insert (not_mem_todo h)]; rfl
theorem bigSep_done {n : ℕ} {e : Dev nD} (h : e.val = n) (Φ : Dev nD → sProp 𝕄) :
    bigSep (done (n + 1)) Φ = iprop(Φ e ∗ bigSep (done n) Φ) := by
  rw [done_step h, bigSep_insert (not_mem_done h)]; rfl

/-- What is owed to the barrier cells, to the receive cells, of the devices from `n` on. -/
def owedBar (n : ℕ) : CellTallies nD τ sig Unit := ∑ e ∈ todo n, tallyAt (barCell e) () 1
def owedRecv (c : Dev nD) (n : ℕ) : CellTallies nD τ sig Unit :=
  ∑ e ∈ todo n, if e = c then 0 else tallyAt (recvCell e c) () N
/-- What device `c` owes at launch. -/
def O₀ (c : Dev nD) : CellTallies nD τ sig Unit := owedRecv c 0 + owedBar 0

theorem owedBar_step {n : ℕ} {e : Dev nD} (h : e.val = n) : owedBar n = owedBar (n + 1) + tallyAt (barCell e) () 1 := by
  unfold owedBar; rw [todo_step h, Finset.sum_insert (not_mem_todo h), add_comm]
theorem owedBar_end : owedBar 32 = 0 := by unfold owedBar; rw [todo_end, Finset.sum_empty]
theorem owedRecv_step {c : Dev nD} {n : ℕ} {e : Dev nD} (h : e.val = n) (hc : e ≠ c) :
    owedRecv c n = owedRecv c (n + 1) + tallyAt (recvCell e c) () N := by
  unfold owedRecv; rw [todo_step h, Finset.sum_insert (not_mem_todo h), if_neg hc, add_comm]
theorem owedRecv_own {c : Dev nD} {n : ℕ} (h : c.val = n) : owedRecv c n = owedRecv c (n + 1) := by
  unfold owedRecv; rw [todo_step h, Finset.sum_insert (not_mem_todo h), if_pos rfl, zero_add]
theorem owedRecv_end (c : Dev nD) : owedRecv c 32 = 0 := by unfold owedRecv; rw [todo_end, Finset.sum_empty]

/-! ## The levels -/

def L (g : GSem nD τ sig) : Finset Unit := if g.1.2 = .tc then {()} else ∅
/-- barrier cells at 1, receive cells at 2, everything else (staging, send) at 0. -/
def lvOf : Option CK → ℕ
  | some (.inl _) => 1
  | some (.inr (.inr _)) => 2
  | _ => 0
def lv (g : GSem nD τ sig) (_ : Unit) : ℕ := lvOf (kindOf g.2)

theorem lv_cell (c : Dev nD) (k : CK) (u : Unit) : lv (kcell (c, k)) u = lvOf (some k) := by
  show lvOf (kindOf (csem k)) = _
  rw [kindOf_csem]
theorem lv_bar (c : Dev nD) (u : Unit) : lv (barCell c) u = 1 := lv_cell c (.inl ()) u
theorem lv_recv (c s : Dev nD) (u : Unit) : lv (recvCell c s) u = 2 := lv_cell c (.inr (.inr s)) u
theorem L_of_ne (g : GSem nD τ sig) (h : g.1.2 ≠ .tc) : L g = ∅ := if_neg h
theorem L_tc (c : Dev nD) (sm : SemLoc sig) : L ((c : Thread nD τ), sm) = {()} := if_pos rfl

theorem sum_tally_pos {S : Finset (Dev nD)} {f : Dev nD → CellTallies nD τ sig Unit} {g : GSem nD τ sig} {u : Unit}
    (h : 0 < (∑ e ∈ S, f e) g u) : ∃ e ∈ S, 0 < f e g u := by
  rw [Finset.sum_apply, Finsupp.finset_sum_apply] at h
  exact Finset.sum_pos_iff.mp h

theorem owedBar_pos {n : ℕ} {g : GSem nD τ sig} {u : Unit} (h : 0 < owedBar n g u) : ∃ e, g = barCell e := by
  obtain ⟨e, -, he⟩ := sum_tally_pos h
  rw [tallyAt_apply] at he
  by_contra hn
  rw [if_neg (fun h' => hn ⟨e, h'.1⟩)] at he
  exact Nat.lt_irrefl 0 he
theorem owedRecv_pos {c : Dev nD} {n : ℕ} {g : GSem nD τ sig} {u : Unit} (h : 0 < owedRecv c n g u) : ∃ e, g = recvCell e c := by
  obtain ⟨e, -, he⟩ := sum_tally_pos h
  by_contra hn
  by_cases hc : e = c
  · rw [if_pos hc] at he; exact Nat.lt_irrefl 0 he
  · rw [if_neg hc, tallyAt_apply, if_neg (fun h' => hn ⟨e, h'.1⟩)] at he
    exact Nat.lt_irrefl 0 he
theorem O₀_pos {c : Dev nD} {g : GSem nD τ sig} {u : Unit} (h : 0 < O₀ c g u) : (∃ e, g = recvCell e c) ∨ ∃ e, g = barCell e := by
  unfold O₀ at h
  rw [Pi.add_apply, Finsupp.add_apply] at h
  rcases Nat.eq_zero_or_pos (owedRecv c 0 g u) with h0 | h0
  · rw [h0, Nat.zero_add] at h; exact Or.inr (owedBar_pos h)
  · exact Or.inl (owedRecv_pos h0)

theorem mayWait_stage (c : Dev nD) (q : DmaSem sig) (hq : dmaKind q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨e, rfl⟩ | ⟨e, rfl⟩ <;> exact Finset.mem_singleton_self _)
      (fun p hp => by
        rw [Finset.mem_singleton.mp hp]
        show lvOf (dmaKind q) ≤ 0
        rw [hq]; exact le_rfl)
      (fun g u hg => by
        rcases O₀_pos hg with ⟨e, rfl⟩ | ⟨e, rfl⟩
        · rw [lv_recv]; exact Nat.two_pos
        · rw [lv_bar]; exact Nat.one_pos)
  · rw [MayWait_zero]; iintro -; iempintro

/-- At its barrier wait a device owes receive cells only, above its barrier cell. -/
theorem mayWait_bar (c : Dev nD) :
    (levAts L lv : sProp 𝕄) ⊢ MayWait (c : Thread nD τ) (.reg barS) () (owedRecv c 0) :=
  MayOwe.of_cut (L := L) (lev := lv) 1 (fun p hp => by rw [Finset.mem_singleton.mp hp, L_tc]; exact Finset.mem_singleton_self _)
    (fun g u hg => by obtain ⟨e, rfl⟩ := owedRecv_pos hg; exact Finset.mem_singleton_self _)
    (fun p hp => by
      rw [Finset.mem_singleton.mp hp]
      show lvOf (regKind barS) ≤ 1
      rw [regKind_bar]; exact le_rfl)
    (fun g u hg => by obtain ⟨e, rfl⟩ := owedRecv_pos hg; rw [lv_recv]; exact Nat.one_lt_two)

end Cert.Exchange

end
-- ==== Proof.Steps.lean ====
/-
# The steps of the body

One rule per communicating statement of the kernel's body, each taking a state counted by the device `n` it addresses to
the state at `n + 1`; a guarded statement keeps the state when the device is the one running it.
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a piece of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The records every device shares -/

def records (K : Dev nD × CK → ℕ) : sProp 𝕄 :=
  iprop((bigSep Finset.univ fun ck : Dev nD × CK => cellInv ER (sched m) (K ck) (kcell ck))
    ∗ (bigSep Finset.univ fun ck : Dev nD × CK => reached ER (kcell ck) 0) ∗ levAts L lv)

instance records_persistent (K : Dev nD × CK → ℕ) : BI.Persistent (records m K) := by unfold records; infer_instance

theorem inv_at (K : Dev nD × CK → ℕ) (ck : Dev nD × CK) :
    (bigSep Finset.univ fun ck : Dev nD × CK => (cellInv ER (sched m) (K ck) (kcell ck) : sProp 𝕄)) ⊢ cellInv ER (sched m) (K ck) (kcell ck) :=
  bigSep_elim (Finset.mem_univ ck)
theorem reached_at (ck : Dev nD × CK) :
    (bigSep Finset.univ fun ck : Dev nD × CK => (reached ER (kcell ck) 0 : sProp 𝕄)) ⊢ reached ER (kcell ck) 0 :=
  bigSep_elim (Finset.mem_univ ck)

theorem rec_inv (K : Dev nD × CK → ℕ) (ck : Dev nD × CK) : records m K ⊢ cellInv ER (sched m) (K ck) (kcell ck) := by
  unfold records
  iintro ⟨H, -, -⟩
  iapply (inv_at m K ck)
  iexact H
theorem rec_reached (K : Dev nD × CK → ℕ) (ck : Dev nD × CK) : records m K ⊢ reached ER (kcell ck) 0 := by
  unfold records
  iintro ⟨-, H, -⟩
  iapply (reached_at (F := F) ck)
  iexact H
theorem inv_bar (K : Dev nD × CK → ℕ) (c : Dev nD) : records m K ⊢ cellInv ER (sched m) (K (c, .inl ())) (barCell c) := rec_inv m K (c, .inl ())
theorem inv_send (K : Dev nD × CK → ℕ) (c e : Dev nD) : records m K ⊢ cellInv ER (sched m) (K (c, .inr (.inl e))) (sendCell c e) := rec_inv m K (c, .inr (.inl e))
theorem inv_recv (K : Dev nD × CK → ℕ) (c s : Dev nD) : records m K ⊢ cellInv ER (sched m) (K (c, .inr (.inr s))) (recvCell c s) := rec_inv m K (c, .inr (.inr s))
theorem reached_bar (K : Dev nD × CK → ℕ) (c : Dev nD) : records m K ⊢ reached ER (barCell c) 0 := rec_reached m K (c, .inl ())
theorem reached_send (K : Dev nD × CK → ℕ) (c e : Dev nD) : records m K ⊢ reached ER (sendCell c e) 0 := rec_reached m K (c, .inr (.inl e))
theorem reached_recv (K : Dev nD × CK → ℕ) (c s : Dev nD) : records m K ⊢ reached ER (recvCell c s) 0 := rec_reached m K (c, .inr (.inr s))
theorem rec_lev (K : Dev nD × CK → ℕ) : records m K ⊢ levAts L lv := by
  unfold records
  iintro ⟨-, -, H⟩
  iexact H

set_option maxRecDepth 20000 in
set_option maxHeartbeats 2000000 in
theorem rec_mayWait (K : Dev nD × CK → ℕ) (c : Dev nD) : records m K ⊢ MayWait (c : Thread nD τ) (.reg barS) () (owedRecv c 0) :=
  (rec_lev m K).trans (mayWait_bar c)

/-- What the core owes, whatever it has waited on. -/
def ow (c : Dev nD) (O : CellTallies nD τ sig Unit) : sProp 𝕄 := iprop(∃ W, owes (c : Thread nD τ) O W)

/-! ## The signals -/

def sigItem (c e : Dev nD) : sProp 𝕄 :=
  iprop(dutyTok ER (barCell e) 0 c ∗ if e = c then iprop(emp) else iprop(∃ f, rPts c e f))

def sigS (c : Dev nD) (n : ℕ) : sProp 𝕄 :=
  iprop(ow c (owedRecv c 0 + owedBar n) ∗ bigSep (todo n) (sigItem c))

theorem sigItem_pay (c e : Dev nD) :
    (if e = c then iprop(emp) else iprop(∃ f, rPts c e f) : sProp 𝕄) ⊢ (sched m).payload (barCell e) 0 c := by
  rw [payload_bar]
  unfold barPay
  by_cases h : e = c
  · rw [if_pos h, if_pos h.symm]
  · rw [if_neg h, if_neg (fun h' => h h'.symm)]

theorem step_signal (K : Dev nD × CK → ℕ) (c : Dev nD) {n : ℕ} (e : Dev nD) (he : e.val = n) {dv : Dev nD} (hdv : dv = e) {am : ℕ} (ham : am = 1)
    {α : Type} {Q : α → sProp 𝕄} {k : PUnit → Prog (TpuEff nD τ sig (Elt F) Λ₀ .tc) α} {R : sProp 𝕄}
    (h : iprop(records m K ∗ sigS c (n + 1) ∗ R) ⊢ WP c (k ⟨⟩) Q) :
    iprop(records m K ∗ sigS c n ∗ R) ⊢ WP c (.op (.semSignal (dv : Thread nD τ) barS am) k) Q := by
  subst hdv ham
  unfold sigS ow
  rw [bigSep_todo he]
  unfold sigItem
  iintro ⟨#Hrec, ⟨⟨%W, HO⟩, ⟨Htok, Hpay⟩, Hrest⟩, HR⟩
  iapply (Rounds.wp_signal 𝒱₀ ER (sched m) (c : Thread nD τ) none (dst := (dv : Thread nD τ)) (κ := K (dv, .inl ()))
      (O₀ := owedRecv c 0 + owedBar n) (d := c) (duties_bar m dv c) (amount_bar m dv c) () (owedRecv c 0 + owedBar (n + 1))
      (by rw [owedBar_step he, add_assoc])) $$ [HO Htok Hpay]
  · isplitr; · iapply (inv_bar m K dv); iexact Hrec
    isplitl [HO]; · iexact HO
    isplitl [Htok]; · iexact Htok
    isplitl [Hpay]; · iapply (sigItem_pay m c dv); iexact Hpay
    iapply (reached_bar m K dv); iexact Hrec
  iintro HO
  iapply h
  unfold sigS ow sigItem
  isplitr; · iexact Hrec
  isplitr [HR]
  · isplitl [HO]; · iexists W; iexact HO
    iexact Hrest
  · iexact HR

/-! ## The barrier wait -/

theorem step_barrier (K : Dev nD × CK → ℕ) (c : Dev nD) {am : ℕ} (ham : am = 32)
    {α : Type} {Q : α → sProp 𝕄} {k : PUnit → Prog (TpuEff nD τ sig (Elt F) Λ₀ .tc) α} {R : sProp 𝕄}
    (h : iprop(records m K ∗ (ow c (owedRecv c 0) ∗ atPos ER (barCell c) 1 ∅ 0 ∗ bigSep Finset.univ (barPay c)) ∗ R) ⊢ WP c (k ⟨⟩) Q) :
    iprop(records m K ∗ (sigS c 32 ∗ cred (tallyAt (barCell c) () 32) ∗ atPos ER (barCell c) 0 ∅ 0) ∗ R)
      ⊢ WP c (.op (.semWait barS am) k) Q := by
  subst ham
  have hk : 0 + 32 = (sched (F := F) m).expect (barCell c) 0 := by rw [expect_bar]
  unfold sigS ow
  rw [owedBar_end, add_zero]
  iintro ⟨#Hrec, ⟨⟨⟨%W, HO⟩, -⟩, Hc, Hat⟩, HR⟩
  iapply (Rounds.wp_wait_rest_token 𝒱₀ ER (sched m) (c : Thread nD τ) none (κ := K (c, .inl ()))
      (wpE_semWait_eq 𝒱₀ (c : Thread nD τ) none Set.univ) (Set.mem_univ _) () (O := owedRecv c 0) (W := W) (R := 0) (m := 0) (T := ∅)
      hk) $$ [Hc HO Hat]
  · isplitr; · iapply (inv_bar m K c); iexact Hrec
    isplitl [Hc]; · iexact Hc
    isplitl [HO]; · iexact HO
    isplitr; · iapply (rec_mayWait m K c); iexact Hrec
    iexact Hat
  iintro ⟨HO, Hat, -, Hpay⟩
  ihave Hp := (Entails.of_eq (rest_bar m c)) $$ Hpay
  iapply h
  unfold ow
  isplitr; · iexact Hrec
  isplitr [HR]
  · isplitl [HO]; · iexists _; iexact HO
    isplitl [Hat]; · iexact Hat
    iexact Hp
  · iexact HR

/-! ## The copies -/

def sendItem (c e : Dev nD) : sProp 𝕄 :=
  if e = c then iprop(emp) else iprop((dutyTok ER (sendCell c e) 0 0 ∗ dutyTok ER (recvCell e c) 0 0)
    ∗ sPts c e (sendBuf m c) ∗ ∃ f, rPts e c f)
def sentItem (c e : Dev nD) : sProp 𝕄 := if e = c then iprop(emp) else iprop(cred (tallyAt (sendCell c e) () N))
def sendS (c : Dev nD) (n : ℕ) : sProp 𝕄 :=
  iprop(ow c (owedRecv c n) ∗ bigSep (todo n) (sendItem m c) ∗ bigSep (done n) (sentItem c))

/-- One copy, run by `c ≠ e`. -/
theorem send_one (K : Dev nD × CK → ℕ) (c e : Dev nD) (hc : e ≠ c) {dv : Dev nD} (hdv : dv = e) {n : ℕ} (hn : e.val = n)
    {so ro : Fin 1 → Nat} (hso : so = ![e.val]) (hro : ro = ![c.val]) {si ri : Fin 2 → Nat} (hsi : si = ![32 * e.val, 0]) (hri : ri = ![32 * c.val, 0])
    {h1 h2 h3 h4 h5 h6 h7 h8 h9 h10}
    {α : Type} {Q : α → sProp 𝕄} {k : PUnit → Prog (TpuEff nD τ sig (Elt F) Λ₀ .tc) α} {R : sProp 𝕄}
    (h : iprop(records m K ∗ sendS m c (n + 1) ∗ R) ⊢ WP c (k ⟨⟩) Q) :
    iprop(records m K ∗ sendS m c n ∗ R) ⊢ WP c (.op (.enqueueDma (sM.slice (Rect.unit (s := S1024x256) si S32x256.size h1) h2)
      (.remote (Dev.tc dv : Thread nD τ) (rM.slice (Rect.unit (s := S1024x256) ri S32x256.size h3) h4)
        (.dma ((cc0_scratch2.slice (Rect.unit (s := S32) so S1.size h5)).squeeze S_ squeezes_S1_S_).sem) h6)
      (.dma ((cc0_scratch3.slice (Rect.unit (s := S32) ro S1.size h7)).squeeze S_ squeezes_S1_S_).sem) h8 h9 h10) k) Q := by
  subst hdv hsi hri
  revert h10
  rw [sem_send dv hso, sem_recv c hro]
  intro h10
  unfold sendS ow
  rw [bigSep_todo hn]
  rw [show sendItem m c dv = iprop((dutyTok ER (sendCell c dv) 0 0 ∗ dutyTok ER (recvCell dv c) 0 0)
    ∗ sPts c dv (sendBuf m c) ∗ ∃ f, rPts dv c f) from if_neg hc]
  iintro ⟨#Hrec, ⟨⟨%W, HO⟩, ⟨⟨⟨Ht1, Ht2⟩, Hs, ⟨%fd, Hr⟩⟩, Hrest⟩, Hdone⟩, HR⟩
  ihave Hs' := (Entails.of_eq (sPts_eq c dv (sendBuf m c))) $$ Hs
  ihave Hr' := (Entails.of_eq (rPts_eq dv c fd)) $$ Hr
  iapply (Rounds.wp_send_pointsTo 𝒱₀ ER (sched m) (c : Thread nD τ) none (κ₁ := K (c, .inr (.inl dv))) (κ₂ := K (dv, .inr (.inr c)))
    (r₁ := 0) (r₂ := 0) (d₁ := 0) (d₂ := 0) (fs := sendBuf m c) (fd := fd) (q := fullShare) (src := sSlot dv) (dst := (rSlot c : Memref sig (Dev.tc dv : Thread nD τ).2.kind .vmem S32x256 .f32))
    (c' := (dv : Thread nD τ)) (O₀ := owedRecv c n)
    (sS := .dma (sendQ dv)) (sem := .dma (recvQ c))
    (by rw [duties_send m hc]; exact Finset.mem_singleton_self _)
    (by rw [duties_recv m (fun h => hc h.symm)]; exact Finset.mem_singleton_self _)
    () () N rfl (amount_send m c dv 0) (amount_recv m dv c 0) (owedRecv c (n + 1)) (owedRecv_step hn hc) (W := W)
    (by rw [payload_send]; exact Entails.of_eq (sPts_eq c dv (sendBuf m c)).symm)
    (by
      rw [payload_recv, rSlot_set]; unfold rPts
      exact Entails.of_eq (pointsTo_congr (landed_copy m c dv fd)))) $$ [Hs' Hr' HO Ht1 Ht2]
  · isplitr; · iapply (inv_send m K c dv); iexact Hrec
    isplitr; · iapply (inv_recv m K dv c); iexact Hrec
    isplitl [Hs']; · iexact Hs'
    isplitl [Hr']; · iexact Hr'
    isplitl [HO]; · iexact HO
    isplitl [Ht1]; · iexact Ht1
    isplitr; · iapply (reached_send m K c dv); iexact Hrec
    isplitl [Ht2]; · iexact Ht2
    iapply (reached_recv m K dv c); iexact Hrec
  iintro ⟨Hcr, HO⟩
  iapply h
  unfold sendS ow
  rw [bigSep_done hn, show sentItem (F := F) c dv = iprop(cred (tallyAt (sendCell c dv) () N)) from if_neg hc]
  isplitr; · iexact Hrec
  isplitr [HR]
  · isplitl [HO]; · iexists W; iexact HO
    isplitl [Hrest]; · iexact Hrest
    isplitl [Hcr] <;> iassumption
  · iexact HR

/-- The copy that device `c` would send itself is not sent. -/
theorem send_own (c : Dev nD) {n : ℕ} (hn : c.val = n) : sendS m c n ⊢ sendS m c (n + 1) := by
  unfold sendS
  rw [bigSep_todo hn, bigSep_done hn, owedRecv_own hn, show sendItem m c c = iprop(emp) from if_pos rfl,
    show sentItem (F := F) c c = iprop(emp) from if_pos rfl]
  iintro ⟨HO, ⟨-, Hr⟩, Hd⟩
  isplitl [HO]; · iexact HO
  isplitl [Hr]; · iexact Hr
  isplitr; · iempintro
  iexact Hd

end Cert.Exchange

end
-- ==== Proof.Waits.lean ====
/-
# The waits for the copies, and the guarded statements
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cells past their duties -/

/-- The position of a cell whose rounds are over. -/
def closing (g : GSem nD τ sig) : sProp 𝕄 :=
  iprop(∃ R, ⌜∀ r, R ≤ r → (sched (F := F) m).duties g r = ∅⌝ ∗ atPos ER g R ∅ 0)

theorem closing_one (g : GSem nD τ sig) : (atPos ER g (0 + 1) ∅ 0 : sProp 𝕄) ⊢ closing m g := by
  unfold closing
  iintro H
  iexists 1
  isplitr; · ipureintro; exact duties_later m g
  iexact H
theorem closing_send_own (c : Dev nD) : (atPos ER (sendCell c c) 0 ∅ 0 : sProp 𝕄) ⊢ closing m (sendCell c c) := by
  unfold closing
  iintro H
  iexists 0
  isplitr; · ipureintro; exact duties_send_own m c
  iexact H
theorem closing_recv_own (c : Dev nD) : (atPos ER (recvCell c c) 0 ∅ 0 : sProp 𝕄) ⊢ closing m (recvCell c c) := by
  unfold closing
  iintro H
  iexists 0
  isplitr; · ipureintro; exact duties_recv_own m c
  iexact H

/-! ## The waits -/

def recvItem (c s : Dev nD) : sProp 𝕄 :=
  if s = c then iprop(atPos ER (recvCell c c) 0 ∅ 0 ∗ rPts c c (landedBuf m c))
  else iprop(cred (tallyAt (recvCell c s) () N) ∗ atPos ER (recvCell c s) 0 ∅ 0)
def rcvdItem (c s : Dev nD) : sProp 𝕄 := iprop(closing m (recvCell c s) ∗ rPts c s (landedBuf m c))
def recvS (c : Dev nD) (n : ℕ) : sProp 𝕄 :=
  iprop(ow c 0 ∗ bigSep (todo n) (recvItem m c) ∗ bigSep (done n) (rcvdItem m c))

def swItem (c e : Dev nD) : sProp 𝕄 :=
  if e = c then iprop(atPos ER (sendCell c c) 0 ∅ 0 ∗ sPts c c (sendBuf m c))
  else iprop(cred (tallyAt (sendCell c e) () N) ∗ atPos ER (sendCell c e) 0 ∅ 0)
def swdItem (c e : Dev nD) : sProp 𝕄 := iprop(closing m (sendCell c e) ∗ sPts c e (sendBuf m c))
def swS (c : Dev nD) (n : ℕ) : sProp 𝕄 :=
  iprop(ow c 0 ∗ bigSep (todo n) (swItem m c) ∗ bigSep (done n) (swdItem m c))

theorem recv_own (c : Dev nD) {n : ℕ} (hn : c.val = n) : recvS m c n ⊢ recvS m c (n + 1) := by
  unfold recvS
  rw [bigSep_todo hn, bigSep_done hn,
    show recvItem m c c = iprop(atPos ER (recvCell c c) 0 ∅ 0 ∗ rPts c c (landedBuf m c)) from if_pos rfl]
  unfold rcvdItem
  iintro ⟨HO, ⟨⟨Hat, Hp⟩, Hr⟩, Hd⟩
  isplitl [HO]; · iexact HO
  isplitl [Hr]; · iexact Hr
  isplitl [Hat Hp]
  · isplitl [Hat]; · iapply (closing_recv_own m c); iexact Hat
    iexact Hp
  iexact Hd

theorem sw_own (c : Dev nD) {n : ℕ} (hn : c.val = n) : swS m c n ⊢ swS m c (n + 1) := by
  unfold swS
  rw [bigSep_todo hn, bigSep_done hn,
    show swItem m c c = iprop(atPos ER (sendCell c c) 0 ∅ 0 ∗ sPts c c (sendBuf m c)) from if_pos rfl]
  unfold swdItem
  iintro ⟨HO, ⟨⟨Hat, Hp⟩, Hr⟩, Hd⟩
  isplitl [HO]; · iexact HO
  isplitl [Hr]; · iexact Hr
  isplitl [Hat Hp]
  · isplitl [Hat]; · iapply (closing_send_own m c); iexact Hat
    iexact Hp
  iexact Hd

theorem recv_one (K : Dev nD × CK → ℕ) (c s : Dev nD) (hc : s ≠ c) {n : ℕ} (hn : s.val = n)
    {so : Fin 1 → Nat} (hso : so = ![s.val]) {si ri : Fin 2 → Nat} {h1 h2 h3 h4 h5 h6 h7}
    {α : Type} {Q : α → sProp 𝕄} {k : PUnit → Prog (TpuEff nD τ sig (Elt F) Λ₀ .tc) α} {R : sProp 𝕄}
    (h : iprop(records m K ∗ recvS m c (n + 1) ∗ R) ⊢ WP c (k ⟨⟩) Q) :
    iprop(records m K ∗ recvS m c n ∗ R) ⊢ WP c (.op (.waitDma2
      ((cc0_scratch3.slice (Rect.unit (s := S32) so S1.size h1)).squeeze S_ squeezes_S1_S_).sem
      (sM.slice (Rect.unit (s := S1024x256) si S32x256.size h2) h3)
      (rM.slice (Rect.unit (s := S1024x256) ri S32x256.size h4) h5) h6 h7) k) Q := by
  rw [sem_recv s hso]
  have hk : 0 + N = (sched (F := F) m).expect (recvCell c s) 0 := by rw [expect_recv m hc, Nat.zero_add]
  have hw : ∀ K' : PUnit → sProp 𝕄, wpE (defs₀ (F := F)) 𝒱₀ (c : Thread nD τ) none Set.univ (.waitDma2 (recvQ s)
      (sM.slice (Rect.unit (s := S1024x256) si S32x256.size h2) h3)
      (rM.slice (Rect.unit (s := S1024x256) ri S32x256.size h4) h5) h6 h7) K'
      = waitSpec (c : Thread nD τ) Set.univ (.dma (recvQ s)) N K' := fun _ => rfl
  unfold recvS ow
  rw [bigSep_todo hn, show recvItem m c s = iprop(cred (tallyAt (recvCell c s) () N) ∗ atPos ER (recvCell c s) 0 ∅ 0) from if_neg hc]
  iintro ⟨#Hrec, ⟨⟨%W, HO⟩, ⟨⟨Hc, Hat⟩, Hrest⟩, Hdone⟩, HR⟩
  iapply (Rounds.wp_wait_rest_token 𝒱₀ ER (sched m) (c : Thread nD τ) none (κ := K (c, .inr (.inr s)))
      hw (Set.mem_univ _) () (O := 0) (W := W) (R := 0) (m := 0) (T := ∅)
      hk) $$ [Hc HO Hat]
  · isplitr; · iapply (inv_recv m K c s); iexact Hrec
    isplitl [Hc]; · iexact Hc
    isplitl [HO]; · iexact HO
    isplitr; · rw [MayWait_zero]; iempintro
    iexact Hat
  iintro ⟨HO, Hat, -, Hpay⟩
  ihave Hp := (Entails.of_eq (rest_recv m hc)) $$ Hpay
  iapply h
  unfold recvS ow
  rw [bigSep_done hn]
  isplitr; · iexact Hrec
  isplitr [HR]
  · isplitl [HO]; · iexists _; iexact HO
    isplitl [Hrest]; · iexact Hrest
    isplitl [Hat Hp]
    · unfold rcvdItem
      isplitl [Hat]; · iapply (closing_one m (recvCell c s)); iexact Hat
      iexact Hp
    · iexact Hdone
  · iexact HR

theorem sw_one (K : Dev nD × CK → ℕ) (c e : Dev nD) (hc : e ≠ c) {n : ℕ} (hn : e.val = n)
    {so : Fin 1 → Nat} (hso : so = ![e.val]) {si ri : Fin 2 → Nat} {h1 h2 h3 h4 h5 h6 h7}
    {α : Type} {Q : α → sProp 𝕄} {k : PUnit → Prog (TpuEff nD τ sig (Elt F) Λ₀ .tc) α} {R : sProp 𝕄}
    (h : iprop(records m K ∗ swS m c (n + 1) ∗ R) ⊢ WP c (k ⟨⟩) Q) :
    iprop(records m K ∗ swS m c n ∗ R) ⊢ WP c (.op (.waitDma2
      ((cc0_scratch2.slice (Rect.unit (s := S32) so S1.size h1)).squeeze S_ squeezes_S1_S_).sem
      (rM.slice (Rect.unit (s := S1024x256) si S32x256.size h2) h3)
      (sM.slice (Rect.unit (s := S1024x256) ri S32x256.size h4) h5) h6 h7) k) Q := by
  rw [sem_send e hso]
  have hk : 0 + N = (sched (F := F) m).expect (sendCell c e) 0 := by rw [expect_send m hc, Nat.zero_add]
  have hw : ∀ K' : PUnit → sProp 𝕄, wpE (defs₀ (F := F)) 𝒱₀ (c : Thread nD τ) none Set.univ (.waitDma2 (sendQ e)
      (rM.slice (Rect.unit (s := S1024x256) si S32x256.size h2) h3)
      (sM.slice (Rect.unit (s := S1024x256) ri S32x256.size h4) h5) h6 h7) K'
      = waitSpec (c : Thread nD τ) Set.univ (.dma (sendQ e)) N K' := fun _ => rfl
  unfold swS ow
  rw [bigSep_todo hn, show swItem m c e = iprop(cred (tallyAt (sendCell c e) () N) ∗ atPos ER (sendCell c e) 0 ∅ 0) from if_neg hc]
  iintro ⟨#Hrec, ⟨⟨%W, HO⟩, ⟨⟨Hc, Hat⟩, Hrest⟩, Hdone⟩, HR⟩
  iapply (Rounds.wp_wait_rest_token 𝒱₀ ER (sched m) (c : Thread nD τ) none (κ := K (c, .inr (.inl e)))
      hw (Set.mem_univ _) () (O := 0) (W := W) (R := 0) (m := 0) (T := ∅)
      hk) $$ [Hc HO Hat]
  · isplitr; · iapply (inv_send m K c e); iexact Hrec
    isplitl [Hc]; · iexact Hc
    isplitl [HO]; · iexact HO
    isplitr; · rw [MayWait_zero]; iempintro
    iexact Hat
  iintro ⟨HO, Hat, -, Hpay⟩
  ihave Hp := (Entails.of_eq (rest_send m hc)) $$ Hpay
  iapply h
  unfold swS ow
  rw [bigSep_done hn]
  isplitr; · iexact Hrec
  isplitr [HR]
  · isplitl [HO]; · iexists _; iexact HO
    isplitl [Hrest]; · iexact Hrest
    isplitl [Hat Hp]
    · unfold swdItem
      isplitl [Hat]; · iapply (closing_one m (sendCell c e)); iexact Hat
      iexact Hp
    · iexact Hdone
  · iexact HR

/-! ## The guards -/

/-- The word of the executing device, as the body computes it. -/
abbrev v2of (c : Dev nD) : BitVec 32 := Scalar.remsi (Scalar.divsi (Dev.word c) 1#32) 32#32
/-- The guard "not device `e`". -/
abbrev guard (c : Dev nD) (w : BitVec 32) : BitVec 1 := Scalar.cmpi .ne (Scalar.extui (Scalar.cmpi .ne (v2of c) w) : BitVec 32) 0#32

theorem guard_iff : ∀ c e : Dev nD, Iff (guard c (BitVec.ofNat 32 e.val) = 1#1) (e ≠ c) := by decide +kernel

theorem ret_step {c : Dev nD} {α : Type} {Q : α → sProp 𝕄} {a : α} {P : sProp 𝕄} (h : P ⊢ Q a) : P ⊢ WP c (Prog.ret a) Q := by
  show P ⊢ wp frame (wpE (defs₀ (F := F)) 𝒱₀ (c : Thread nD τ) none) Set.univ (Prog.ret a) Q
  rw [wp_ret]
  iintro H
  imodintro
  iapply h
  iexact H

/-- A guarded statement keeping the state when the guard fails. -/
theorem guarded {c : Dev nD} {α : Type} {Q : α → sProp 𝕄} {R : sProp 𝕄} {k : Prog (TpuEff nD τ sig (Elt F) Λ₀ .tc) α} {S S' : sProp 𝕄} (K : Dev nD × CK → ℕ) (e : Dev nD) {cond : BitVec 1}
    (hcond : Iff (cond = 1#1) (e ≠ c)) {A : cond = 1#1 → Prog (TpuEff nD τ sig (Elt F) Λ₀ .tc) α}
    {B : ¬cond = 1#1 → Prog (TpuEff nD τ sig (Elt F) Λ₀ .tc) α} (hown : e = c → S ⊢ S') (hB : ∀ h, B h = k)
    (hA : ∀ h, e ≠ c → (iprop(records m K ∗ S' ∗ R) ⊢ WP c k Q) → iprop(records m K ∗ S ∗ R) ⊢ WP c (A h) Q)
    (h : iprop(records m K ∗ S' ∗ R) ⊢ WP c k Q) :
    iprop(records m K ∗ S ∗ R) ⊢ WP c (dite (cond = 1#1) A B) Q := by
  rcases Decidable.em (cond = 1#1) with hc | hc
  · rw [dif_pos hc]
    exact hA hc (hcond.mp hc) h
  · rw [dif_neg hc, hB hc]
    have he : e = c := Decidable.byContradiction fun h' => hc (hcond.mpr h')
    exact (sep_mono_right (sep_mono_left (hown he))).trans h

end Cert.Exchange

end
-- ==== Proof.Local.lean ====
/-
# The loads and stores of the body
-/
module

public import proofs.«01_k».proof.Proof.Waits
public import Idealize.ShloMosaic.Lib.Pointwise.Reshape

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev xPts (c : Dev nD) : sProp 𝕄 := ((c : Thread nD τ).loc cc0_stg0_0) ↦{fullShare} xstg m c
abbrev dPts (c : Dev nD) : sProp 𝕄 := ((c : Thread nD τ).loc cc0_stg1_0) ↦{fullShare} dstg m c
abbrev oPts (c : Dev nD) (f : Buf (Elt F) ((c : Thread nD τ).loc cc0_stg2_0)) : sProp 𝕄 := ((c : Thread nD τ).loc cc0_stg2_0) ↦{fullShare} f
abbrev sAll (c : Dev nD) (f : Buf (Elt F) ((c : Thread nD τ).loc cc0_scratch0)) : sProp 𝕄 := ((c : Thread nD τ).loc cc0_scratch0) ↦{fullShare} f
abbrev rAll (c : Dev nD) (f : Buf (Elt F) ((c : Thread nD τ).loc cc0_scratch1)) : sProp 𝕄 := ((c : Thread nD τ).loc cc0_scratch1) ↦{fullShare} f

theorem hz : (![0, 0] : Fin 2 → Nat) = fun _ => 0 := funext fun a => by fin_cases a <;> rfl

theorem load_x (c : Dev nD) {α : Type} {Q : α → sProp 𝕄} {k : Vec F S512x256 .f32 → Prog (TpuEff nD τ sig (Elt F) Λ₀ .tc) α} {R : sProp 𝕄}  {hb hl}
    (h : iprop(xPts m c ∗ R) ⊢ WP c (k (xstg m c)) Q) :
    iprop(xPts m c ∗ R) ⊢ WP c (.op (.load xM (Rect.unit (s := S512x256) ![0, 0] S512x256.size hb).toLoadRect hl) k) Q := by
  have hr : (xM : Memref sig .tc .vmem S512x256 .f32).view.readAt (Elt F) (Rect.unit (s := S512x256) ![0, 0] S512x256.size hb).toLoadRect (xstg m c) = (xstg m c) :=
    Memref.readAt_unit_zero (Elt F) cc0_stg0_0 hz _ (xstg m c)
  iintro ⟨Hx, HR⟩
  iapply (wp_load 𝒱₀ (c : Thread nD τ) none Set.univ (m := xM) (Finset.subset_univ _)) $$ Hx
  iintro Hx
  rw [hr]
  iapply h
  isplitl [Hx]; · iexact Hx
  iexact HR

theorem load_d (c : Dev nD) {α : Type} {Q : α → sProp 𝕄} {k : Vec F S1x512 .i32 → Prog (TpuEff nD τ sig (Elt F) Λ₀ .tc) α} {R : sProp 𝕄}  {hb hl}
    (h : iprop(dPts m c ∗ R) ⊢ WP c (k (dstg m c)) Q) :
    iprop(dPts m c ∗ R) ⊢ WP c (.op (.load dM (Rect.unit (s := S1x512) ![0, 0] S1x512.size hb).toLoadRect hl) k) Q := by
  have hr : (dM : Memref sig .tc .vmem S1x512 .i32).view.readAt (Elt F) (Rect.unit (s := S1x512) ![0, 0] S1x512.size hb).toLoadRect (dstg m c) = (dstg m c) :=
    Memref.readAt_unit_zero (Elt F) cc0_stg1_0 hz _ (dstg m c)
  iintro ⟨Hx, HR⟩
  iapply (wp_load 𝒱₀ (c : Thread nD τ) none Set.univ (m := dM) (Finset.subset_univ _)) $$ Hx
  iintro Hx
  rw [hr]
  iapply h
  isplitl [Hx]; · iexact Hx
  iexact HR

theorem load_s (c : Dev nD) {α : Type} {Q : α → sProp 𝕄} {k : Vec F S1024x256 .f32 → Prog (TpuEff nD τ sig (Elt F) Λ₀ .tc) α} {R : sProp 𝕄} (f : Vec F S1024x256 .f32) {hb hl}
    (h : iprop(sAll c f ∗ R) ⊢ WP c (k f) Q) :
    iprop(sAll c f ∗ R) ⊢ WP c (.op (.load sM (Rect.unit (s := S1024x256) ![0, 0] S1024x256.size hb).toLoadRect hl) k) Q := by
  have hr : (sM : Memref sig .tc .vmem S1024x256 .f32).view.readAt (Elt F) (Rect.unit (s := S1024x256) ![0, 0] S1024x256.size hb).toLoadRect f = f :=
    Memref.readAt_unit_zero (Elt F) cc0_scratch0 hz _ f
  iintro ⟨Hx, HR⟩
  iapply (wp_load 𝒱₀ (c : Thread nD τ) none Set.univ (m := sM) (Finset.subset_univ _)) $$ Hx
  iintro Hx
  rw [hr]
  iapply h
  isplitl [Hx]; · iexact Hx
  iexact HR

theorem load_r (c : Dev nD) {α : Type} {Q : α → sProp 𝕄} {k : Vec F S1024x256 .f32 → Prog (TpuEff nD τ sig (Elt F) Λ₀ .tc) α} {R : sProp 𝕄} (f : Vec F S1024x256 .f32) {hb hl}
    (h : iprop(rAll c f ∗ R) ⊢ WP c (k f) Q) :
    iprop(rAll c f ∗ R) ⊢ WP c (.op (.load rM (Rect.unit (s := S1024x256) ![0, 0] S1024x256.size hb).toLoadRect hl) k) Q := by
  have hr : (rM : Memref sig .tc .vmem S1024x256 .f32).view.readAt (Elt F) (Rect.unit (s := S1024x256) ![0, 0] S1024x256.size hb).toLoadRect f = f :=
    Memref.readAt_unit_zero (Elt F) cc0_scratch1 hz _ f
  iintro ⟨Hx, HR⟩
  iapply (wp_load 𝒱₀ (c : Thread nD τ) none Set.univ (m := rM) (Finset.subset_univ _)) $$ Hx
  iintro Hx
  rw [hr]
  iapply h
  isplitl [Hx]; · iexact Hx
  iexact HR

theorem load_o (c : Dev nD) {α : Type} {Q : α → sProp 𝕄} {k : Vec F S512x256 .f32 → Prog (TpuEff nD τ sig (Elt F) Λ₀ .tc) α} {R : sProp 𝕄} (f : Vec F S512x256 .f32) {hb hl}
    (h : iprop(oPts c f ∗ R) ⊢ WP c (k f) Q) :
    iprop(oPts c f ∗ R) ⊢ WP c (.op (.load oM (Rect.unit (s := S512x256) ![0, 0] S512x256.size hb).toLoadRect hl) k) Q := by
  have hr : (oM : Memref sig .tc .vmem S512x256 .f32).view.readAt (Elt F) (Rect.unit (s := S512x256) ![0, 0] S512x256.size hb).toLoadRect f = f :=
    Memref.readAt_unit_zero (Elt F) cc0_stg2_0 hz _ f
  iintro ⟨Hx, HR⟩
  iapply (wp_load 𝒱₀ (c : Thread nD τ) none Set.univ (m := oM) (Finset.subset_univ _)) $$ Hx
  iintro Hx
  rw [hr]
  iapply h
  isplitl [Hx]; · iexact Hx
  iexact HR

theorem store_s (c : Dev nD) {α : Type} {Q : α → sProp 𝕄} {k : PUnit → Prog (TpuEff nD τ sig (Elt F) Λ₀ .tc) α} {R : sProp 𝕄} (f w : Vec F S1024x256 .f32) {hb hx hm}
    (h : iprop(sAll c w ∗ R) ⊢ WP c (k ⟨⟩) Q) :
    iprop(sAll c f ∗ R) ⊢ WP c (.op (.store sM (Rect.unit (s := S1024x256) ![0, 0] S1024x256.size hb) w Finset.univ hx hm) k) Q := by
  have hr : ((sM : Memref sig .tc .vmem S1024x256 .f32).access (Rect.unit (s := S1024x256) ![0, 0] S1024x256.size hb) : View sig .tc _ _ _).write (Elt F) f w Finset.univ = w :=
    Memref.write_access_unit_zero_univ (Elt F) cc0_scratch0 hz _ f w
  iintro ⟨Hx, HR⟩
  iapply (wp_store 𝒱₀ (c : Thread nD τ) none Set.univ (m := sM) (r := Rect.unit (s := S1024x256) ![0, 0] S1024x256.size hb) (w := w) (f := f) (S := Finset.univ) (Mk := Finset.univ) (Finset.subset_univ _)) $$ Hx
  iintro Hx
  rw [hr]
  iapply h
  isplitl [Hx]; · iexact Hx
  iexact HR

theorem store_o (c : Dev nD) {α : Type} {Q : α → sProp 𝕄} {k : PUnit → Prog (TpuEff nD τ sig (Elt F) Λ₀ .tc) α} {R : sProp 𝕄} (f w : Vec F S512x256 .f32) {hb hx hm}
    (h : iprop(oPts c w ∗ R) ⊢ WP c (k ⟨⟩) Q) :
    iprop(oPts c f ∗ R) ⊢ WP c (.op (.store oM (Rect.unit (s := S512x256) ![0, 0] S512x256.size hb) w Finset.univ hx hm) k) Q := by
  have hr : ((oM : Memref sig .tc .vmem S512x256 .f32).access (Rect.unit (s := S512x256) ![0, 0] S512x256.size hb) : View sig .tc _ _ _).write (Elt F) f w Finset.univ = w :=
    Memref.write_access_unit_zero_univ (Elt F) cc0_stg2_0 hz _ f w
  iintro ⟨Hx, HR⟩
  iapply (wp_store 𝒱₀ (c : Thread nD τ) none Set.univ (m := oM) (r := Rect.unit (s := S512x256) ![0, 0] S512x256.size hb) (w := w) (f := f) (S := Finset.univ) (Mk := Finset.univ) (Finset.subset_univ _)) $$ Hx
  iintro Hx
  rw [hr]
  iapply h
  isplitl [Hx]; · iexact Hx
  iexact HR

/-- The device's own block, read. -/
theorem load_own (c : Dev nD) {α : Type} {Q : α → sProp 𝕄} {k : Vec F S32x256 .f32 → Prog (TpuEff nD τ sig (Elt F) Λ₀ .tc) α} {R : sProp 𝕄}
    {o : Fin 2 → Nat} (ho : o = ![32 * c.val, 0]) {hb hl}
    (h : iprop(sPts c c (sendBuf m c) ∗ R) ⊢ WP c (k ((sSlot c).view.read (Elt F) (sendBuf m c))) Q) :
    iprop(sPts c c (sendBuf m c) ∗ R) ⊢ WP c (.op (.load sM (Rect.unit (s := S1024x256) o S32x256.size hb).toLoadRect hl) k) Q := by
  subst ho
  iintro ⟨Hx, HR⟩
  ihave Hx := (Entails.of_eq (sPts_eq c c (sendBuf m c))) $$ Hx
  iapply (wp_load_rect 𝒱₀ (c : Thread nD τ) none Set.univ (m := sM) (r := rows c) (S := (sSlot c).view.set) (f := sendBuf m c) (by exact Finset.Subset.refl _)) $$ [Hx]
  · iexact Hx
  iintro Hx
  iapply h
  isplitl [Hx]
  · iapply (Entails.of_eq (sPts_eq c c (sendBuf m c)).symm); iexact Hx
  iexact HR

theorem load_own_r (c : Dev nD) {α : Type} {Q : α → sProp 𝕄} {k : Vec F S32x256 .f32 → Prog (TpuEff nD τ sig (Elt F) Λ₀ .tc) α} {R : sProp 𝕄}
    {o : Fin 2 → Nat} (ho : o = ![32 * c.val, 0]) (f : Buf (Elt F) ((c : Thread nD τ).loc cc0_scratch1)) {hb hl}
    (h : ∀ v, iprop(rPts c c f ∗ R) ⊢ WP c (k v) Q) :
    iprop(rPts c c f ∗ R) ⊢ WP c (.op (.load rM (Rect.unit (s := S1024x256) o S32x256.size hb).toLoadRect hl) k) Q := by
  subst ho
  iintro ⟨Hx, HR⟩
  ihave Hx := (Entails.of_eq (rPts_eq c c f)) $$ Hx
  iapply (wp_load_rect 𝒱₀ (c : Thread nD τ) none Set.univ (m := rM) (r := rows c) (S := (rSlot c).view.set) (f := f) (by exact Finset.Subset.refl _)) $$ [Hx]
  · iexact Hx
  iintro Hx
  iapply (h _)
  isplitl [Hx]
  · iapply (Entails.of_eq (rPts_eq c c f).symm); iexact Hx
  iexact HR

theorem pay8_eq (v : Vec F S32x256 .f32) : k0_pay8 v = v := by unfold k0_pay8; exact shapeCast_id v _

/-- The device's own block, written to its landing buffer. -/
theorem store_own (c : Dev nD) {α : Type} {Q : α → sProp 𝕄} {k : PUnit → Prog (TpuEff nD τ sig (Elt F) Λ₀ .tc) α} {R : sProp 𝕄}
    {o : Fin 2 → Nat} (ho : o = ![32 * c.val, 0]) (f : Buf (Elt F) ((c : Thread nD τ).loc cc0_scratch1)) {hb hx hm}
    (h : iprop(rPts c c (landedBuf m c) ∗ R) ⊢ WP c (k ⟨⟩) Q) :
    iprop(rPts c c f ∗ R) ⊢ WP c (.op (.store rM (Rect.unit (s := S1024x256) o S32x256.size hb)
      (k0_pay8 ((sSlot c).view.read (Elt F) (sendBuf m c))) Finset.univ hx hm) k) Q := by
  subst ho
  rw [pay8_eq]
  iintro ⟨Hx, HR⟩
  ihave Hx := (Entails.of_eq (rPts_eq c c f)) $$ Hx
  iapply (wp_store 𝒱₀ (c : Thread nD τ) none Set.univ (m := rM) (r := rows c) (Mk := Finset.univ) (S := (rSlot c).view.set) (f := f) (by exact Finset.Subset.refl _)) $$ [Hx]
  · iexact Hx
  iintro Hx
  iapply h
  isplitl [Hx]
  · ihave Hx := (Entails.of_eq (rPts_eq c c _).symm) $$ Hx
    unfold rPts
    iapply (Entails.of_eq (pointsTo_congr (landed_copy m c c f))); iexact Hx
  iexact HR

end Cert.Exchange

end
-- ==== Proof.PartsA.lean ====
/-
# The parts of the body up to the barrier
-/
module

public import proofs.«01_k».proof.Proof.Local

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Parts

variable (K : Dev nD × CK → ℕ) (c : Dev nD)

theorem dev_step {α : Type} {Q : α → sProp 𝕄} {k : Dev nD → Prog (TpuEff nD τ sig (Elt F) Λ₀ .tc) α} {P : sProp 𝕄}
    (h : P ⊢ WP c (k c) Q) : P ⊢ WP c (.op .deviceId k) Q := by
  show P ⊢ wp frame (wpE (defs₀ (F := F)) 𝒱₀ (c : Thread nD τ) none) Set.univ (.op .deviceId k) Q
  rw [wp_deviceId]
  exact h

theorem swap_left {A B R X : sProp 𝕄} (h : iprop(B ∗ A ∗ R) ⊢ X) : iprop(A ∗ B ∗ R) ⊢ X := by
  iintro ⟨HA, HB, HR⟩
  iapply h
  isplitl [HB]; · iexact HB
  isplitl [HA] <;> iassumption
theorem third_first {A B C R X : sProp 𝕄} (h : iprop(C ∗ A ∗ B ∗ R) ⊢ X) : iprop(A ∗ B ∗ C ∗ R) ⊢ X := by
  iintro ⟨HA, HB, HC, HR⟩
  iapply h
  isplitl [HC]; · iexact HC
  isplitl [HA]; · iexact HA
  isplitl [HB] <;> iassumption
theorem first_third {A B C R X : sProp 𝕄} (h : iprop(A ∗ B ∗ C ∗ R) ⊢ X) : iprop(C ∗ A ∗ B ∗ R) ⊢ X := by
  iintro ⟨HC, HA, HB, HR⟩
  iapply h
  isplitl [HA]; · iexact HA
  isplitl [HB]; · iexact HB
  isplitl [HC] <;> iassumption

set_option maxHeartbeats 4000000 in
theorem part1 {Q : _ → sProp 𝕄} {R : sProp 𝕄}
    (h : iprop(xPts m c ∗ dPts m c ∗ R) ⊢ Q ⟨c, v2of c, k0_pay1 (xstg m c), k0_pay4 (dstg m c), k0_pay5 (dstg m c), k0_pay6⟩) :
    iprop(xPts m c ∗ dPts m c ∗ R) ⊢ WP c (k0_part1 (F := F) xM (Memref.isWhole_whole _) dM (Memref.isWhole_whole _) oM (Memref.isWhole_whole _)
      sM (Memref.isWhole_whole _) rM (Memref.isWhole_whole _) cc0_scratch2 cc0_scratch3) Q := by
  rw [k0_part1_eq_skeleton]
  unfold k0_part1_skel
  refine dev_step c ?_
  refine load_x m c ?_
  refine swap_left ?_
  refine load_d m c ?_
  refine swap_left ?_
  exact ret_step h

set_option maxHeartbeats 4000000 in
theorem part2 {Q : _ → sProp 𝕄} {R : sProp 𝕄} (f : Vec F S1024x256 .f32)
    (h : iprop(records m K ∗ sigS c 6 ∗ (sAll c (sendBuf m c) ∗ R)) ⊢ Q ⟨SemArray.scalar (sig.barrier 0 rfl), 6#32⟩) :
    iprop(records m K ∗ sigS c 0 ∗ (sAll c f ∗ R)) ⊢ WP c (k0_part2 (F := F) xM (Memref.isWhole_whole _) dM (Memref.isWhole_whole _) oM (Memref.isWhole_whole _)
      sM (Memref.isWhole_whole _) rM (Memref.isWhole_whole _) cc0_scratch2 cc0_scratch3
      (k0_pay1 (xstg m c)) (k0_pay4 (dstg m c)) (k0_pay5 (dstg m c)) k0_pay6) Q := by
  rw [k0_part2_eq_skeleton]
  unfold k0_part2_skel
  refine third_first ?_
  refine load_s c f ?_
  refine store_s c f _ ?_
  refine first_third ?_
  refine step_signal m K c (⟨0, by decide⟩ : Dev nD) rfl (Fin.ext k0_dev1_eq) rfl ?_
  refine step_signal m K c (⟨1, by decide⟩ : Dev nD) rfl (Fin.ext k0_dev2_eq) rfl ?_
  refine step_signal m K c (⟨2, by decide⟩ : Dev nD) rfl (Fin.ext k0_dev3_eq) rfl ?_
  refine step_signal m K c (⟨3, by decide⟩ : Dev nD) rfl (Fin.ext k0_dev4_eq) rfl ?_
  refine step_signal m K c (⟨4, by decide⟩ : Dev nD) rfl (Fin.ext k0_dev5_eq) rfl ?_
  refine step_signal m K c (⟨5, by decide⟩ : Dev nD) rfl (Fin.ext k0_dev6_eq) rfl ?_
  exact ret_step h

set_option maxHeartbeats 4000000 in
theorem part3 {Q : _ → sProp 𝕄} {R : sProp 𝕄} (w1 : BitVec 32)
    (h : ∀ r, iprop(records m K ∗ sigS c 14 ∗ R) ⊢ Q r) :
    iprop(records m K ∗ sigS c 6 ∗ R) ⊢ WP c (k0_part3 (F := F) xM (Memref.isWhole_whole _) dM (Memref.isWhole_whole _) oM (Memref.isWhole_whole _)
      sM (Memref.isWhole_whole _) rM (Memref.isWhole_whole _) cc0_scratch2 cc0_scratch3 (SemArray.scalar (sig.barrier 0 rfl)) w1) Q := by
  rw [k0_part3_eq_skeleton]
  unfold k0_part3_skel
  refine step_signal m K c (⟨6, by decide⟩ : Dev nD) rfl (Fin.ext k0_dev7_eq) rfl ?_
  refine step_signal m K c (⟨7, by decide⟩ : Dev nD) rfl (Fin.ext k0_dev8_eq) rfl ?_
  refine step_signal m K c (⟨8, by decide⟩ : Dev nD) rfl (Fin.ext k0_dev9_eq) rfl ?_
  refine step_signal m K c (⟨9, by decide⟩ : Dev nD) rfl (Fin.ext k0_dev10_eq) rfl ?_
  refine step_signal m K c (⟨10, by decide⟩ : Dev nD) rfl (Fin.ext k0_dev11_eq) rfl ?_
  refine step_signal m K c (⟨11, by decide⟩ : Dev nD) rfl (Fin.ext k0_dev12_eq) rfl ?_
  refine step_signal m K c (⟨12, by decide⟩ : Dev nD) rfl (Fin.ext k0_dev13_eq) rfl ?_
  refine step_signal m K c (⟨13, by decide⟩ : Dev nD) rfl (Fin.ext k0_dev14_eq) rfl ?_
  exact ret_step (h _)

set_option maxHeartbeats 4000000 in
theorem part4 {Q : _ → sProp 𝕄} {R : sProp 𝕄}
    (h : ∀ r, iprop(records m K ∗ sigS c 23 ∗ R) ⊢ Q r) :
    iprop(records m K ∗ sigS c 14 ∗ R) ⊢ WP c (k0_part4 (F := F) xM (Memref.isWhole_whole _) dM (Memref.isWhole_whole _) oM (Memref.isWhole_whole _)
      sM (Memref.isWhole_whole _) rM (Memref.isWhole_whole _) cc0_scratch2 cc0_scratch3 (SemArray.scalar (sig.barrier 0 rfl)) ) Q := by
  rw [k0_part4_eq_skeleton]
  unfold k0_part4_skel
  refine step_signal m K c (⟨14, by decide⟩ : Dev nD) rfl (Fin.ext k0_dev15_eq) rfl ?_
  refine step_signal m K c (⟨15, by decide⟩ : Dev nD) rfl (Fin.ext k0_dev16_eq) rfl ?_
  refine step_signal m K c (⟨16, by decide⟩ : Dev nD) rfl (Fin.ext k0_dev17_eq) rfl ?_
  refine step_signal m K c (⟨17, by decide⟩ : Dev nD) rfl (Fin.ext k0_dev18_eq) rfl ?_
  refine step_signal m K c (⟨18, by decide⟩ : Dev nD) rfl (Fin.ext k0_dev19_eq) rfl ?_
  refine step_signal m K c (⟨19, by decide⟩ : Dev nD) rfl (Fin.ext k0_dev20_eq) rfl ?_
  refine step_signal m K c (⟨20, by decide⟩ : Dev nD) rfl (Fin.ext k0_dev21_eq) rfl ?_
  refine step_signal m K c (⟨21, by decide⟩ : Dev nD) rfl (Fin.ext k0_dev22_eq) rfl ?_
  refine step_signal m K c (⟨22, by decide⟩ : Dev nD) rfl (Fin.ext k0_dev23_eq) rfl ?_
  exact ret_step (h _)

set_option maxHeartbeats 4000000 in
theorem part5 {Q : _ → sProp 𝕄} {R : sProp 𝕄} (w1 w2 : BitVec 32)
    (h : ∀ r, iprop(records m K ∗ sigS c 32 ∗ R) ⊢ Q r) :
    iprop(records m K ∗ sigS c 23 ∗ R) ⊢ WP c (k0_part5 (F := F) xM (Memref.isWhole_whole _) dM (Memref.isWhole_whole _) oM (Memref.isWhole_whole _)
      sM (Memref.isWhole_whole _) rM (Memref.isWhole_whole _) cc0_scratch2 cc0_scratch3 (SemArray.scalar (sig.barrier 0 rfl)) w1 w2) Q := by
  rw [k0_part5_eq_skeleton]
  unfold k0_part5_skel
  refine step_signal m K c (⟨23, by decide⟩ : Dev nD) rfl (Fin.ext k0_dev24_eq) rfl ?_
  refine step_signal m K c (⟨24, by decide⟩ : Dev nD) rfl (Fin.ext k0_dev25_eq) rfl ?_
  refine step_signal m K c (⟨25, by decide⟩ : Dev nD) rfl (Fin.ext k0_dev26_eq) rfl ?_
  refine step_signal m K c (⟨26, by decide⟩ : Dev nD) rfl (Fin.ext k0_dev27_eq) rfl ?_
  refine step_signal m K c (⟨27, by decide⟩ : Dev nD) rfl (Fin.ext k0_dev28_eq) rfl ?_
  refine step_signal m K c (⟨28, by decide⟩ : Dev nD) rfl (Fin.ext k0_dev29_eq) rfl ?_
  refine step_signal m K c (⟨29, by decide⟩ : Dev nD) rfl (Fin.ext k0_dev30_eq) rfl ?_
  refine step_signal m K c (⟨30, by decide⟩ : Dev nD) rfl (Fin.ext k0_dev31_eq) rfl ?_
  refine step_signal m K c (⟨31, by decide⟩ : Dev nD) rfl (Fin.ext k0_dev32_eq) rfl ?_
  exact ret_step (h _)

set_option maxHeartbeats 4000000 in
theorem part6 {Q : _ → sProp 𝕄} {R : sProp 𝕄} (w : BitVec 32)
    (h : ∀ r, iprop(records m K ∗ (ow c (owedRecv c 0) ∗ atPos ER (barCell c) 1 ∅ 0 ∗ bigSep Finset.univ (barPay c)) ∗ R) ⊢ Q r) :
    iprop(records m K ∗ (sigS c 32 ∗ cred (tallyAt (barCell c) () 32) ∗ atPos ER (barCell c) 0 ∅ 0) ∗ R)
      ⊢ WP c (k0_part6 (F := F) xM (Memref.isWhole_whole _) dM (Memref.isWhole_whole _) oM (Memref.isWhole_whole _)
      sM (Memref.isWhole_whole _) rM (Memref.isWhole_whole _) cc0_scratch2 cc0_scratch3 w (SemArray.scalar (sig.barrier 0 rfl))) Q := by
  rw [k0_part6_eq_skeleton]
  unfold k0_part6_skel
  refine step_barrier m K c rfl ?_
  exact ret_step (h _)

end Parts

end Cert.Exchange

end
-- ==== Proof.Glue.lean ====
/-
# What a device holds between the parts
-/
module

public import proofs.«01_k».proof.Proof.PartsA

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A device's own entry of a product over the devices -/

theorem if_own (c : Dev nD) (A : sProp 𝕄) (Ψ : Dev nD → sProp 𝕄) :
    (bigSep Finset.univ fun e => if e = c then A else Ψ e) = iprop(A ∗ bigSep Finset.univ fun e => if e = c then iprop(emp) else Ψ e) := by
  rw [bigSep_erase (Finset.mem_univ c), if_pos rfl]
  conv_rhs => rw [bigSep_erase (Finset.mem_univ c), if_pos rfl]
  have h : bigSep (Finset.univ.erase c) (fun e => if e = c then A else Ψ e) = bigSep (Finset.univ.erase c) (fun e => if e = c then iprop(emp) else Ψ e) :=
    bigSep_congr fun e he => by rw [if_neg (Finset.ne_of_mem_erase he), if_neg (Finset.ne_of_mem_erase he)]
  rw [h]
  exact congrArg (fun X : sProp 𝕄 => iprop(A ∗ X)) (emp_sep_eq _).symm

theorem split_own (c : Dev nD) (Ψ : Dev nD → sProp 𝕄) :
    bigSep Finset.univ Ψ = iprop(Ψ c ∗ bigSep Finset.univ fun e => if e = c then iprop(emp) else Ψ e) := by
  rw [← if_own c (Ψ c) Ψ]
  refine bigSep_congr fun e _ => ?_
  by_cases h : e = c
  · rw [if_pos h, h]
  · rw [if_neg h]

theorem pair_if (c : Dev nD) (Φ Ψ : Dev nD → sProp 𝕄) :
    iprop((bigSep Finset.univ fun e => if e = c then iprop(emp) else Φ e) ∗ (bigSep Finset.univ fun e => if e = c then iprop(emp) else Ψ e))
      = bigSep Finset.univ fun e => if e = c then iprop(emp) else iprop(Φ e ∗ Ψ e) := by
  refine (bigSep_sep' (s := Finset.univ) _ _).symm.trans (bigSep_congr fun e _ => ?_)
  by_cases h : e = c
  · rw [if_pos h, if_pos h, if_pos h]; exact emp_sep_eq _
  · rw [if_neg h, if_neg h, if_neg h]

/-! ## What the body holds along its way -/

def tokB (c : Dev nD) : sProp 𝕄 := bigSep Finset.univ fun e => dutyTok ER (barCell e) 0 c
def tokC (c : Dev nD) : sProp 𝕄 := bigSep Finset.univ fun e =>
  if e = c then iprop(emp) else iprop(dutyTok ER (sendCell c e) 0 0 ∗ dutyTok ER (recvCell e c) 0 0)
def posS (c : Dev nD) : sProp 𝕄 := bigSep Finset.univ fun e => atPos ER (sendCell c e) 0 ∅ 0
def posR (c : Dev nD) : sProp 𝕄 := bigSep Finset.univ fun s => atPos ER (recvCell c s) 0 ∅ 0
def crR (c : Dev nD) : sProp 𝕄 := bigSep Finset.univ fun s => if s = c then iprop(emp) else cred (tallyAt (recvCell c s) () N)
def crB (c : Dev nD) : sProp 𝕄 := cred (tallyAt (barCell c) () 32)
def posB (c : Dev nD) (R : ℕ) : sProp 𝕄 := atPos ER (barCell c) R ∅ 0
def sent (c : Dev nD) : sProp 𝕄 := bigSep Finset.univ (sentItem c)
def closeR (c : Dev nD) : sProp 𝕄 := bigSep Finset.univ fun s => closing m (recvCell c s)
def closeS (c : Dev nD) : sProp 𝕄 := bigSep Finset.univ fun e => closing m (sendCell c e)

theorem rAll_eq (c : Dev nD) (f : Vec F S1024x256 .f32) : (rAll c f : sProp 𝕄) = bigSep Finset.univ fun s => rPts c s f := rPts_all c f
theorem sAll_eq (c : Dev nD) (f : Vec F S1024x256 .f32) : (sAll c f : sProp 𝕄) = bigSep Finset.univ fun e => sPts c e f := sPts_all c f

theorem slot_some (c e : Dev nD) (f : Vec F S1024x256 .f32) :
    (if e = c then iprop(emp) else rPts c e f : sProp 𝕄) ⊢ (if e = c then iprop(emp) else iprop(∃ f, rPts c e f)) := by
  by_cases h : e = c
  · rw [if_pos h, if_pos h]
  · rw [if_neg h, if_neg h]
    iintro H
    iexists f
    iexact H

theorem slots_some (c : Dev nD) (f : Vec F S1024x256 .f32) :
    (bigSep Finset.univ fun e : Dev nD => (if e = c then iprop(emp) else rPts c e f : sProp 𝕄))
      ⊢ bigSep Finset.univ fun e : Dev nD => (if e = c then iprop(emp) else iprop(∃ f, rPts c e f)) :=
  bigSep_mono fun e _ => slot_some c e f

theorem to_sig (c : Dev nD) (f : Vec F S1024x256 .f32) :
    iprop(ow c (O₀ c) ∗ tokB c ∗ rAll c f) ⊢ iprop(sigS c 0 ∗ rPts c c f) := by
  unfold sigS tokB O₀
  rw [rAll_eq, split_own c (fun s => rPts c s f), todo_zero]
  iintro ⟨HO, HT, Hown, Hr⟩
  isplitr [Hown]
  · isplitl [HO]; · iexact HO
    unfold sigItem
    iapply (Entails.of_eq (bigSep_sep' (s := Finset.univ) (fun e => dutyTok ER (barCell e) 0 c)
      (fun e => if e = c then iprop(emp) else iprop(∃ f, rPts c e f))).symm)
    isplitl [HT]; · iexact HT
    iapply (slots_some c f)
    iexact Hr
  · iexact Hown

theorem to_send (c : Dev nD) :
    iprop(ow c (owedRecv c 0) ∗ bigSep Finset.univ (barPay (F := F) c) ∗ tokC c ∗ sAll c (sendBuf m c))
      ⊢ iprop(sendS m c 0 ∗ sPts c c (sendBuf m c)) := by
  unfold sendS tokC barPay
  rw [sAll_eq c (sendBuf m c), split_own c (fun e => sPts c e (sendBuf m c)), todo_zero, done_zero, bigSep_empty]
  iintro ⟨HO, HP, HT, Hown, Hs⟩
  isplitr [Hown]
  · isplitl [HO]; · iexact HO
    isplitl
    · unfold sendItem
      iapply (Entails.of_eq (pair_if c (fun e => iprop(dutyTok ER (sendCell c e) 0 0 ∗ dutyTok ER (recvCell e c) 0 0))
        (fun e => iprop(sPts c e (sendBuf m c) ∗ ∃ f, rPts e c f))))
      isplitl [HT]; · iexact HT
      iapply (Entails.of_eq (pair_if c (fun e => sPts c e (sendBuf m c)) (fun e => iprop(∃ f, rPts e c f))))
      isplitl [Hs]; · iexact Hs
      iexact HP
    · iempintro
  · iexact Hown

theorem to_recv (c : Dev nD) :
    iprop(sendS m c 32 ∗ rPts c c (landedBuf m c) ∗ posR c ∗ crR c) ⊢ iprop(recvS m c 0 ∗ sent c) := by
  unfold sendS recvS posR crR sent
  rw [owedRecv_end, todo_end, done_end, bigSep_empty, todo_zero, done_zero, bigSep_empty,
    split_own c (fun s => (atPos ER (recvCell c s) 0 ∅ 0 : sProp 𝕄))]
  iintro ⟨⟨HO, -, Hsent⟩, Hown, ⟨Hat, Hats⟩, Hcr⟩
  isplitr [Hsent]
  · isplitl [HO]; · iexact HO
    isplitl
    · unfold recvItem
      iapply (Entails.of_eq (if_own c iprop(atPos ER (recvCell c c) 0 ∅ 0 ∗ rPts c c (landedBuf m c))
        (fun s => iprop(cred (tallyAt (recvCell c s) () N) ∗ atPos ER (recvCell c s) 0 ∅ 0))).symm)
      isplitl [Hat Hown]
      · isplitl [Hat]; · iexact Hat
        iexact Hown
      iapply (Entails.of_eq (pair_if c (fun s => (cred (tallyAt (recvCell c s) () N) : sProp 𝕄)) (fun s => atPos ER (recvCell c s) 0 ∅ 0)))
      isplitl [Hcr]; · iexact Hcr
      iexact Hats
    · iempintro
  · iexact Hsent

theorem from_recv (c : Dev nD) :
    recvS m c 32 ⊢ iprop(ow c 0 ∗ rAll c (landedBuf m c) ∗ closeR m c) := by
  unfold recvS closeR rcvdItem
  rw [todo_end, done_end, bigSep_empty, rAll_eq c (landedBuf m c)]
  iintro ⟨HO, -, H⟩
  ihave H := (Entails.of_eq (bigSep_sep' (s := Finset.univ) (fun s => closing m (recvCell c s)) (fun s => rPts c s (landedBuf m c)))) $$ H
  icases H with ⟨H1, H2⟩
  isplitl [HO]; · iexact HO
  isplitl [H2] <;> iassumption

theorem to_sw (c : Dev nD) :
    iprop(ow c 0 ∗ sent c ∗ posS c ∗ sPts c c (sendBuf m c)) ⊢ swS m c 0 := by
  unfold swS posS sent sentItem
  rw [todo_zero, done_zero, bigSep_empty, split_own c (fun s => (atPos ER (sendCell c s) 0 ∅ 0 : sProp 𝕄))]
  iintro ⟨HO, Hcr, ⟨Hat, Hats⟩, Hown⟩
  isplitl [HO]; · iexact HO
  isplitl
  · unfold swItem
    iapply (Entails.of_eq (if_own c iprop(atPos ER (sendCell c c) 0 ∅ 0 ∗ sPts c c (sendBuf m c))
      (fun s => iprop(cred (tallyAt (sendCell c s) () N) ∗ atPos ER (sendCell c s) 0 ∅ 0))).symm)
    isplitl [Hat Hown]
    · isplitl [Hat]; · iexact Hat
      iexact Hown
    iapply (Entails.of_eq (pair_if c (fun s => (cred (tallyAt (sendCell c s) () N) : sProp 𝕄)) (fun s => atPos ER (sendCell c s) 0 ∅ 0)))
    isplitl [Hcr]; · iexact Hcr
    iexact Hats
  · iempintro

theorem from_sw (c : Dev nD) :
    swS m c 32 ⊢ iprop(ow c 0 ∗ sAll c (sendBuf m c) ∗ closeS m c) := by
  unfold swS closeS swdItem
  rw [todo_end, done_end, bigSep_empty, sAll_eq c (sendBuf m c)]
  iintro ⟨HO, -, H⟩
  ihave H := (Entails.of_eq (bigSep_sep' (s := Finset.univ) (fun s => closing m (sendCell c s)) (fun s => sPts c s (sendBuf m c)))) $$ H
  icases H with ⟨H1, H2⟩
  isplitl [HO]; · iexact HO
  isplitl [H2] <;> iassumption

/-! ## Closing the cells -/

theorem close_one (K : Dev nD × CK → ℕ) (ck : Dev nD × CK) :
    iprop(records m K ∗ closing m (kcell ck)) ⊢ iprop(|={Set.univ}=> semVal (kcell ck) 0) := by
  unfold closing
  iintro ⟨#Hrec, %R, %hR, Hat⟩
  iapply (Rounds.cell_close ER (sched m) (Set.mem_univ (K ck)) (fun h => h) (R := R) hR)
  isplitr; · iapply (rec_inv m K ck); iexact Hrec
  iexact Hat

theorem close_all (K : Dev nD × CK → ℕ) (f : Dev nD → Dev nD × CK) :
    iprop(records m K ∗ bigSep Finset.univ fun s => closing m (kcell (f s))) ⊢ iprop(|={Set.univ}=> bigSep Finset.univ fun s => semVal (kcell (f s)) 0) := by
  have h1 : iprop(records m K ∗ bigSep Finset.univ fun s => closing m (kcell (f s)))
      ⊢ bigSep Finset.univ fun s => iprop(records m K ∗ closing m (kcell (f s))) := by
    rw [bigSep_sep' (Finset.univ : Finset (Dev nD)) (fun _ => records m K) (fun s => closing m (kcell (f s)))]
    exact sep_mono_left (bigSep_of_persistent Finset.univ (records m K))
  exact (h1.trans (bigSep_mono fun s _ => close_one m K (f s))).trans (bigSep_fupd _ _)

end Cert.Exchange

end
-- ==== Proof.PartsB.lean ====
/-
# The parts of the body that start the copies
-/
module

public import proofs.«01_k».proof.Proof.PartsA

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Parts

variable (K : Dev nD × CK → ℕ) (c : Dev nD)

set_option maxHeartbeats 4000000 in
theorem part7 {Q : _ → sProp 𝕄} {R : sProp 𝕄} (w : BitVec 32)
    (h : ∀ r, iprop(records m K ∗ sendS m c 7 ∗ R) ⊢ Q r) :
    iprop(records m K ∗ sendS m c 0 ∗ R) ⊢ WP c (k0_part7 (F := F) xM (Memref.isWhole_whole _) dM (Memref.isWhole_whole _) oM (Memref.isWhole_whole _)
      sM (Memref.isWhole_whole _) rM (Memref.isWhole_whole _) cc0_scratch2 cc0_scratch3 c (v2of c) w) Q := by
  rw [k0_part7_eq_skeleton]
  unfold k0_part7_skel
  refine guarded m K (⟨0, by decide⟩ : Dev nD) (guard_iff c ⟨0, by decide⟩) (fun he => send_own m c (congrArg Fin.val he).symm) (fun _ => rfl) (fun _ hne hk =>
    send_one m K c ⟨0, by decide⟩ hne (Fin.ext k0_dev33_eq) rfl rfl (k0_off1_eq c) rfl (k0_off2_eq c) hk) ?_
  refine guarded m K (⟨1, by decide⟩ : Dev nD) (guard_iff c ⟨1, by decide⟩) (fun he => send_own m c (congrArg Fin.val he).symm) (fun _ => rfl) (fun _ hne hk =>
    send_one m K c ⟨1, by decide⟩ hne (Fin.ext k0_dev34_eq) rfl rfl (k0_off3_eq c) rfl (k0_off4_eq c) hk) ?_
  refine guarded m K (⟨2, by decide⟩ : Dev nD) (guard_iff c ⟨2, by decide⟩) (fun he => send_own m c (congrArg Fin.val he).symm) (fun _ => rfl) (fun _ hne hk =>
    send_one m K c ⟨2, by decide⟩ hne (Fin.ext k0_dev35_eq) rfl rfl (k0_off5_eq c) rfl (k0_off6_eq c) hk) ?_
  refine guarded m K (⟨3, by decide⟩ : Dev nD) (guard_iff c ⟨3, by decide⟩) (fun he => send_own m c (congrArg Fin.val he).symm) (fun _ => rfl) (fun _ hne hk =>
    send_one m K c ⟨3, by decide⟩ hne (Fin.ext k0_dev36_eq) rfl rfl (k0_off7_eq c) rfl (k0_off8_eq c) hk) ?_
  refine guarded m K (⟨4, by decide⟩ : Dev nD) (guard_iff c ⟨4, by decide⟩) (fun he => send_own m c (congrArg Fin.val he).symm) (fun _ => rfl) (fun _ hne hk =>
    send_one m K c ⟨4, by decide⟩ hne (Fin.ext k0_dev37_eq) rfl rfl (k0_off9_eq c) rfl (k0_off10_eq c) hk) ?_
  refine guarded m K (⟨5, by decide⟩ : Dev nD) (guard_iff c ⟨5, by decide⟩) (fun he => send_own m c (congrArg Fin.val he).symm) (fun _ => rfl) (fun _ hne hk =>
    send_one m K c ⟨5, by decide⟩ hne (Fin.ext k0_dev38_eq) rfl rfl (k0_off11_eq c) rfl (k0_off12_eq c) hk) ?_
  refine guarded m K (⟨6, by decide⟩ : Dev nD) (guard_iff c ⟨6, by decide⟩) (fun he => send_own m c (congrArg Fin.val he).symm) (fun _ => rfl) (fun _ hne hk =>
    send_one m K c ⟨6, by decide⟩ hne (Fin.ext k0_dev39_eq) rfl rfl (k0_off13_eq c) rfl (k0_off14_eq c) hk) ?_
  exact ret_step (h _)

set_option maxHeartbeats 4000000 in
theorem part8 {Q : _ → sProp 𝕄} {R : sProp 𝕄} (w : BitVec 32)
    (h : ∀ r, iprop(records m K ∗ sendS m c 16 ∗ R) ⊢ Q r) :
    iprop(records m K ∗ sendS m c 7 ∗ R) ⊢ WP c (k0_part8 (F := F) xM (Memref.isWhole_whole _) dM (Memref.isWhole_whole _) oM (Memref.isWhole_whole _)
      sM (Memref.isWhole_whole _) rM (Memref.isWhole_whole _) cc0_scratch2 cc0_scratch3 c (v2of c) w) Q := by
  rw [k0_part8_eq_skeleton]
  unfold k0_part8_skel
  refine guarded m K (⟨7, by decide⟩ : Dev nD) (guard_iff c ⟨7, by decide⟩) (fun he => send_own m c (congrArg Fin.val he).symm) (fun _ => rfl) (fun _ hne hk =>
    send_one m K c ⟨7, by decide⟩ hne (Fin.ext k0_dev40_eq) rfl rfl (k0_off15_eq c) rfl (k0_off16_eq c) hk) ?_
  refine guarded m K (⟨8, by decide⟩ : Dev nD) (guard_iff c ⟨8, by decide⟩) (fun he => send_own m c (congrArg Fin.val he).symm) (fun _ => rfl) (fun _ hne hk =>
    send_one m K c ⟨8, by decide⟩ hne (Fin.ext k0_dev41_eq) rfl rfl (k0_off17_eq c) rfl (k0_off18_eq c) hk) ?_
  refine guarded m K (⟨9, by decide⟩ : Dev nD) (guard_iff c ⟨9, by decide⟩) (fun he => send_own m c (congrArg Fin.val he).symm) (fun _ => rfl) (fun _ hne hk =>
    send_one m K c ⟨9, by decide⟩ hne (Fin.ext k0_dev42_eq) rfl rfl (k0_off19_eq c) rfl (k0_off20_eq c) hk) ?_
  refine guarded m K (⟨10, by decide⟩ : Dev nD) (guard_iff c ⟨10, by decide⟩) (fun he => send_own m c (congrArg Fin.val he).symm) (fun _ => rfl) (fun _ hne hk =>
    send_one m K c ⟨10, by decide⟩ hne (Fin.ext k0_dev43_eq) rfl rfl (k0_off21_eq c) rfl (k0_off22_eq c) hk) ?_
  refine guarded m K (⟨11, by decide⟩ : Dev nD) (guard_iff c ⟨11, by decide⟩) (fun he => send_own m c (congrArg Fin.val he).symm) (fun _ => rfl) (fun _ hne hk =>
    send_one m K c ⟨11, by decide⟩ hne (Fin.ext k0_dev44_eq) rfl rfl (k0_off23_eq c) rfl (k0_off24_eq c) hk) ?_
  refine guarded m K (⟨12, by decide⟩ : Dev nD) (guard_iff c ⟨12, by decide⟩) (fun he => send_own m c (congrArg Fin.val he).symm) (fun _ => rfl) (fun _ hne hk =>
    send_one m K c ⟨12, by decide⟩ hne (Fin.ext k0_dev45_eq) rfl rfl (k0_off25_eq c) rfl (k0_off26_eq c) hk) ?_
  refine guarded m K (⟨13, by decide⟩ : Dev nD) (guard_iff c ⟨13, by decide⟩) (fun he => send_own m c (congrArg Fin.val he).symm) (fun _ => rfl) (fun _ hne hk =>
    send_one m K c ⟨13, by decide⟩ hne (Fin.ext k0_dev46_eq) rfl rfl (k0_off27_eq c) rfl (k0_off28_eq c) hk) ?_
  refine guarded m K (⟨14, by decide⟩ : Dev nD) (guard_iff c ⟨14, by decide⟩) (fun he => send_own m c (congrArg Fin.val he).symm) (fun _ => rfl) (fun _ hne hk =>
    send_one m K c ⟨14, by decide⟩ hne (Fin.ext k0_dev47_eq) rfl rfl (k0_off29_eq c) rfl (k0_off30_eq c) hk) ?_
  refine guarded m K (⟨15, by decide⟩ : Dev nD) (guard_iff c ⟨15, by decide⟩) (fun he => send_own m c (congrArg Fin.val he).symm) (fun _ => rfl) (fun _ hne hk =>
    send_one m K c ⟨15, by decide⟩ hne (Fin.ext k0_dev48_eq) rfl rfl (k0_off31_eq c) rfl (k0_off32_eq c) hk) ?_
  exact ret_step (h _)

set_option maxHeartbeats 4000000 in
theorem part9 {Q : _ → sProp 𝕄} {R : sProp 𝕄} (w : BitVec 32)
    (h : ∀ r, iprop(records m K ∗ sendS m c 24 ∗ R) ⊢ Q r) :
    iprop(records m K ∗ sendS m c 16 ∗ R) ⊢ WP c (k0_part9 (F := F) xM (Memref.isWhole_whole _) dM (Memref.isWhole_whole _) oM (Memref.isWhole_whole _)
      sM (Memref.isWhole_whole _) rM (Memref.isWhole_whole _) cc0_scratch2 cc0_scratch3 c (v2of c) w) Q := by
  rw [k0_part9_eq_skeleton]
  unfold k0_part9_skel
  refine guarded m K (⟨16, by decide⟩ : Dev nD) (guard_iff c ⟨16, by decide⟩) (fun he => send_own m c (congrArg Fin.val he).symm) (fun _ => rfl) (fun _ hne hk =>
    send_one m K c ⟨16, by decide⟩ hne (Fin.ext k0_dev49_eq) rfl rfl (k0_off33_eq c) rfl (k0_off34_eq c) hk) ?_
  refine guarded m K (⟨17, by decide⟩ : Dev nD) (guard_iff c ⟨17, by decide⟩) (fun he => send_own m c (congrArg Fin.val he).symm) (fun _ => rfl) (fun _ hne hk =>
    send_one m K c ⟨17, by decide⟩ hne (Fin.ext k0_dev50_eq) rfl rfl (k0_off35_eq c) rfl (k0_off36_eq c) hk) ?_
  refine guarded m K (⟨18, by decide⟩ : Dev nD) (guard_iff c ⟨18, by decide⟩) (fun he => send_own m c (congrArg Fin.val he).symm) (fun _ => rfl) (fun _ hne hk =>
    send_one m K c ⟨18, by decide⟩ hne (Fin.ext k0_dev51_eq) rfl rfl (k0_off37_eq c) rfl (k0_off38_eq c) hk) ?_
  refine guarded m K (⟨19, by decide⟩ : Dev nD) (guard_iff c ⟨19, by decide⟩) (fun he => send_own m c (congrArg Fin.val he).symm) (fun _ => rfl) (fun _ hne hk =>
    send_one m K c ⟨19, by decide⟩ hne (Fin.ext k0_dev52_eq) rfl rfl (k0_off39_eq c) rfl (k0_off40_eq c) hk) ?_
  refine guarded m K (⟨20, by decide⟩ : Dev nD) (guard_iff c ⟨20, by decide⟩) (fun he => send_own m c (congrArg Fin.val he).symm) (fun _ => rfl) (fun _ hne hk =>
    send_one m K c ⟨20, by decide⟩ hne (Fin.ext k0_dev53_eq) rfl rfl (k0_off41_eq c) rfl (k0_off42_eq c) hk) ?_
  refine guarded m K (⟨21, by decide⟩ : Dev nD) (guard_iff c ⟨21, by decide⟩) (fun he => send_own m c (congrArg Fin.val he).symm) (fun _ => rfl) (fun _ hne hk =>
    send_one m K c ⟨21, by decide⟩ hne (Fin.ext k0_dev54_eq) rfl rfl (k0_off43_eq c) rfl (k0_off44_eq c) hk) ?_
  refine guarded m K (⟨22, by decide⟩ : Dev nD) (guard_iff c ⟨22, by decide⟩) (fun he => send_own m c (congrArg Fin.val he).symm) (fun _ => rfl) (fun _ hne hk =>
    send_one m K c ⟨22, by decide⟩ hne (Fin.ext k0_dev55_eq) rfl rfl (k0_off45_eq c) rfl (k0_off46_eq c) hk) ?_
  refine guarded m K (⟨23, by decide⟩ : Dev nD) (guard_iff c ⟨23, by decide⟩) (fun he => send_own m c (congrArg Fin.val he).symm) (fun _ => rfl) (fun _ hne hk =>
    send_one m K c ⟨23, by decide⟩ hne (Fin.ext k0_dev56_eq) rfl rfl (k0_off47_eq c) rfl (k0_off48_eq c) hk) ?_
  exact ret_step (h _)

set_option maxHeartbeats 4000000 in
theorem part10 {Q : _ → sProp 𝕄} {R : sProp 𝕄} (w w' : BitVec 32)
    (h : iprop(records m K ∗ sendS m c 32 ∗ (sPts c c (sendBuf m c) ∗ R)) ⊢ Q ((sSlot c).view.read (Elt F) (sendBuf m c))) :
    iprop(records m K ∗ sendS m c 24 ∗ (sPts c c (sendBuf m c) ∗ R)) ⊢ WP c (k0_part10 (F := F) xM (Memref.isWhole_whole _) dM (Memref.isWhole_whole _) oM (Memref.isWhole_whole _)
      sM (Memref.isWhole_whole _) rM (Memref.isWhole_whole _) cc0_scratch2 cc0_scratch3 c (v2of c) w w') Q := by
  rw [k0_part10_eq_skeleton]
  unfold k0_part10_skel
  refine guarded m K (⟨24, by decide⟩ : Dev nD) (guard_iff c ⟨24, by decide⟩) (fun he => send_own m c (congrArg Fin.val he).symm) (fun _ => rfl) (fun _ hne hk =>
    send_one m K c ⟨24, by decide⟩ hne (Fin.ext k0_dev57_eq) rfl rfl (k0_off49_eq c) rfl (k0_off50_eq c) hk) ?_
  refine guarded m K (⟨25, by decide⟩ : Dev nD) (guard_iff c ⟨25, by decide⟩) (fun he => send_own m c (congrArg Fin.val he).symm) (fun _ => rfl) (fun _ hne hk =>
    send_one m K c ⟨25, by decide⟩ hne (Fin.ext k0_dev58_eq) rfl rfl (k0_off51_eq c) rfl (k0_off52_eq c) hk) ?_
  refine guarded m K (⟨26, by decide⟩ : Dev nD) (guard_iff c ⟨26, by decide⟩) (fun he => send_own m c (congrArg Fin.val he).symm) (fun _ => rfl) (fun _ hne hk =>
    send_one m K c ⟨26, by decide⟩ hne (Fin.ext k0_dev59_eq) rfl rfl (k0_off53_eq c) rfl (k0_off54_eq c) hk) ?_
  refine guarded m K (⟨27, by decide⟩ : Dev nD) (guard_iff c ⟨27, by decide⟩) (fun he => send_own m c (congrArg Fin.val he).symm) (fun _ => rfl) (fun _ hne hk =>
    send_one m K c ⟨27, by decide⟩ hne (Fin.ext k0_dev60_eq) rfl rfl (k0_off55_eq c) rfl (k0_off56_eq c) hk) ?_
  refine guarded m K (⟨28, by decide⟩ : Dev nD) (guard_iff c ⟨28, by decide⟩) (fun he => send_own m c (congrArg Fin.val he).symm) (fun _ => rfl) (fun _ hne hk =>
    send_one m K c ⟨28, by decide⟩ hne (Fin.ext k0_dev61_eq) rfl rfl (k0_off57_eq c) rfl (k0_off58_eq c) hk) ?_
  refine guarded m K (⟨29, by decide⟩ : Dev nD) (guard_iff c ⟨29, by decide⟩) (fun he => send_own m c (congrArg Fin.val he).symm) (fun _ => rfl) (fun _ hne hk =>
    send_one m K c ⟨29, by decide⟩ hne (Fin.ext k0_dev62_eq) rfl rfl (k0_off59_eq c) rfl (k0_off60_eq c) hk) ?_
  refine guarded m K (⟨30, by decide⟩ : Dev nD) (guard_iff c ⟨30, by decide⟩) (fun he => send_own m c (congrArg Fin.val he).symm) (fun _ => rfl) (fun _ hne hk =>
    send_one m K c ⟨30, by decide⟩ hne (Fin.ext k0_dev63_eq) rfl rfl (k0_off61_eq c) rfl (k0_off62_eq c) hk) ?_
  refine guarded m K (⟨31, by decide⟩ : Dev nD) (guard_iff c ⟨31, by decide⟩) (fun he => send_own m c (congrArg Fin.val he).symm) (fun _ => rfl) (fun _ hne hk =>
    send_one m K c ⟨31, by decide⟩ hne (Fin.ext k0_dev64_eq) rfl rfl (k0_off63_eq c) rfl (k0_off64_eq c) hk) ?_
  refine third_first ?_
  refine load_own m c (k0_off65_eq c) ?_
  refine first_third ?_
  exact ret_step h

end Parts

end Cert.Exchange

end
-- ==== Proof.PartsC.lean ====
/-
# The parts of the body that wait for the copies in
-/
module

public import proofs.«01_k».proof.Proof.PartsA

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Parts

variable (K : Dev nD × CK → ℕ) (c : Dev nD)

set_option maxHeartbeats 4000000 in
theorem part11 {Q : _ → sProp 𝕄} {R R₀ : sProp 𝕄} (f : Buf (Elt F) ((c : Thread nD τ).loc cc0_scratch1))
    (h₀ : iprop(rPts c c (landedBuf m c) ∗ R₀) ⊢ iprop(records m K ∗ recvS m c 0 ∗ R))
    (h : ∀ r, iprop(records m K ∗ recvS m c 7 ∗ R) ⊢ Q r) :
    iprop(rPts c c f ∗ R₀) ⊢ WP c (k0_part11 (F := F) xM (Memref.isWhole_whole _) dM (Memref.isWhole_whole _) oM (Memref.isWhole_whole _)
      sM (Memref.isWhole_whole _) rM (Memref.isWhole_whole _) cc0_scratch2 cc0_scratch3 c (v2of c) ((sSlot c).view.read (Elt F) (sendBuf m c))) Q := by
  rw [k0_part11_eq_skeleton]
  unfold k0_part11_skel
  refine load_own_r c (k0_off65_eq c) f (fun v => ?_)
  refine store_own m c (k0_off65_eq c) f ?_
  refine h₀.trans ?_
  refine guarded m K (⟨0, by decide⟩ : Dev nD) (guard_iff c ⟨0, by decide⟩) (fun he => recv_own m c (congrArg Fin.val he).symm) (fun _ => rfl) (fun _ hne hk =>
    recv_one m K c ⟨0, by decide⟩ hne rfl rfl hk) ?_
  refine guarded m K (⟨1, by decide⟩ : Dev nD) (guard_iff c ⟨1, by decide⟩) (fun he => recv_own m c (congrArg Fin.val he).symm) (fun _ => rfl) (fun _ hne hk =>
    recv_one m K c ⟨1, by decide⟩ hne rfl rfl hk) ?_
  refine guarded m K (⟨2, by decide⟩ : Dev nD) (guard_iff c ⟨2, by decide⟩) (fun he => recv_own m c (congrArg Fin.val he).symm) (fun _ => rfl) (fun _ hne hk =>
    recv_one m K c ⟨2, by decide⟩ hne rfl rfl hk) ?_
  refine guarded m K (⟨3, by decide⟩ : Dev nD) (guard_iff c ⟨3, by decide⟩) (fun he => recv_own m c (congrArg Fin.val he).symm) (fun _ => rfl) (fun _ hne hk =>
    recv_one m K c ⟨3, by decide⟩ hne rfl rfl hk) ?_
  refine guarded m K (⟨4, by decide⟩ : Dev nD) (guard_iff c ⟨4, by decide⟩) (fun he => recv_own m c (congrArg Fin.val he).symm) (fun _ => rfl) (fun _ hne hk =>
    recv_one m K c ⟨4, by decide⟩ hne rfl rfl hk) ?_
  refine guarded m K (⟨5, by decide⟩ : Dev nD) (guard_iff c ⟨5, by decide⟩) (fun he => recv_own m c (congrArg Fin.val he).symm) (fun _ => rfl) (fun _ hne hk =>
    recv_one m K c ⟨5, by decide⟩ hne rfl rfl hk) ?_
  refine guarded m K (⟨6, by decide⟩ : Dev nD) (guard_iff c ⟨6, by decide⟩) (fun he => recv_own m c (congrArg Fin.val he).symm) (fun _ => rfl) (fun _ hne hk =>
    recv_one m K c ⟨6, by decide⟩ hne rfl rfl hk) ?_
  exact ret_step (h _)

set_option maxHeartbeats 4000000 in
theorem part12 {Q : _ → sProp 𝕄} {R : sProp 𝕄}
    (h : iprop(records m K ∗ recvS m c 14 ∗ R) ⊢ Q (Scalar.extui (Scalar.cmpi .ne (v2of c) 14#32))) :
    iprop(records m K ∗ recvS m c 7 ∗ R) ⊢ WP c (k0_part12 (F := F) xM (Memref.isWhole_whole _) dM (Memref.isWhole_whole _) oM (Memref.isWhole_whole _)
      sM (Memref.isWhole_whole _) rM (Memref.isWhole_whole _) cc0_scratch2 cc0_scratch3 (v2of c) ) Q := by
  rw [k0_part12_eq_skeleton]
  unfold k0_part12_skel
  refine guarded m K (⟨7, by decide⟩ : Dev nD) (guard_iff c ⟨7, by decide⟩) (fun he => recv_own m c (congrArg Fin.val he).symm) (fun _ => rfl) (fun _ hne hk =>
    recv_one m K c ⟨7, by decide⟩ hne rfl rfl hk) ?_
  refine guarded m K (⟨8, by decide⟩ : Dev nD) (guard_iff c ⟨8, by decide⟩) (fun he => recv_own m c (congrArg Fin.val he).symm) (fun _ => rfl) (fun _ hne hk =>
    recv_one m K c ⟨8, by decide⟩ hne rfl rfl hk) ?_
  refine guarded m K (⟨9, by decide⟩ : Dev nD) (guard_iff c ⟨9, by decide⟩) (fun he => recv_own m c (congrArg Fin.val he).symm) (fun _ => rfl) (fun _ hne hk =>
    recv_one m K c ⟨9, by decide⟩ hne rfl rfl hk) ?_
  refine guarded m K (⟨10, by decide⟩ : Dev nD) (guard_iff c ⟨10, by decide⟩) (fun he => recv_own m c (congrArg Fin.val he).symm) (fun _ => rfl) (fun _ hne hk =>
    recv_one m K c ⟨10, by decide⟩ hne rfl rfl hk) ?_
  refine guarded m K (⟨11, by decide⟩ : Dev nD) (guard_iff c ⟨11, by decide⟩) (fun he => recv_own m c (congrArg Fin.val he).symm) (fun _ => rfl) (fun _ hne hk =>
    recv_one m K c ⟨11, by decide⟩ hne rfl rfl hk) ?_
  refine guarded m K (⟨12, by decide⟩ : Dev nD) (guard_iff c ⟨12, by decide⟩) (fun he => recv_own m c (congrArg Fin.val he).symm) (fun _ => rfl) (fun _ hne hk =>
    recv_one m K c ⟨12, by decide⟩ hne rfl rfl hk) ?_
  refine guarded m K (⟨13, by decide⟩ : Dev nD) (guard_iff c ⟨13, by decide⟩) (fun he => recv_own m c (congrArg Fin.val he).symm) (fun _ => rfl) (fun _ hne hk =>
    recv_one m K c ⟨13, by decide⟩ hne rfl rfl hk) ?_
  exact ret_step h

set_option maxHeartbeats 4000000 in
theorem part13 {Q : _ → sProp 𝕄} {R : sProp 𝕄}
    (h : iprop(records m K ∗ recvS m c 22 ∗ R) ⊢ Q ⟨⟩) :
    iprop(records m K ∗ recvS m c 14 ∗ R) ⊢ WP c (k0_part13 (F := F) xM (Memref.isWhole_whole _) dM (Memref.isWhole_whole _) oM (Memref.isWhole_whole _)
      sM (Memref.isWhole_whole _) rM (Memref.isWhole_whole _) cc0_scratch2 cc0_scratch3 (v2of c) (Scalar.extui (Scalar.cmpi .ne (v2of c) 14#32))) Q := by
  rw [k0_part13_eq_skeleton]
  unfold k0_part13_skel
  refine guarded m K (⟨14, by decide⟩ : Dev nD) (guard_iff c ⟨14, by decide⟩) (fun he => recv_own m c (congrArg Fin.val he).symm) (fun _ => rfl) (fun _ hne hk =>
    recv_one m K c ⟨14, by decide⟩ hne rfl rfl hk) ?_
  refine guarded m K (⟨15, by decide⟩ : Dev nD) (guard_iff c ⟨15, by decide⟩) (fun he => recv_own m c (congrArg Fin.val he).symm) (fun _ => rfl) (fun _ hne hk =>
    recv_one m K c ⟨15, by decide⟩ hne rfl rfl hk) ?_
  refine guarded m K (⟨16, by decide⟩ : Dev nD) (guard_iff c ⟨16, by decide⟩) (fun he => recv_own m c (congrArg Fin.val he).symm) (fun _ => rfl) (fun _ hne hk =>
    recv_one m K c ⟨16, by decide⟩ hne rfl rfl hk) ?_
  refine guarded m K (⟨17, by decide⟩ : Dev nD) (guard_iff c ⟨17, by decide⟩) (fun he => recv_own m c (congrArg Fin.val he).symm) (fun _ => rfl) (fun _ hne hk =>
    recv_one m K c ⟨17, by decide⟩ hne rfl rfl hk) ?_
  refine guarded m K (⟨18, by decide⟩ : Dev nD) (guard_iff c ⟨18, by decide⟩) (fun he => recv_own m c (congrArg Fin.val he).symm) (fun _ => rfl) (fun _ hne hk =>
    recv_one m K c ⟨18, by decide⟩ hne rfl rfl hk) ?_
  refine guarded m K (⟨19, by decide⟩ : Dev nD) (guard_iff c ⟨19, by decide⟩) (fun he => recv_own m c (congrArg Fin.val he).symm) (fun _ => rfl) (fun _ hne hk =>
    recv_one m K c ⟨19, by decide⟩ hne rfl rfl hk) ?_
  refine guarded m K (⟨20, by decide⟩ : Dev nD) (guard_iff c ⟨20, by decide⟩) (fun he => recv_own m c (congrArg Fin.val he).symm) (fun _ => rfl) (fun _ hne hk =>
    recv_one m K c ⟨20, by decide⟩ hne rfl rfl hk) ?_
  refine guarded m K (⟨21, by decide⟩ : Dev nD) (guard_iff c ⟨21, by decide⟩) (fun he => recv_own m c (congrArg Fin.val he).symm) (fun _ => rfl) (fun _ hne hk =>
    recv_one m K c ⟨21, by decide⟩ hne rfl rfl hk) ?_
  exact ret_step h

set_option maxHeartbeats 4000000 in
theorem part14 {Q : _ → sProp 𝕄} {R : sProp 𝕄}
    (h : iprop(records m K ∗ recvS m c 29 ∗ R) ⊢ Q (Scalar.extui (Scalar.cmpi .ne (v2of c) 29#32))) :
    iprop(records m K ∗ recvS m c 22 ∗ R) ⊢ WP c (k0_part14 (F := F) xM (Memref.isWhole_whole _) dM (Memref.isWhole_whole _) oM (Memref.isWhole_whole _)
      sM (Memref.isWhole_whole _) rM (Memref.isWhole_whole _) cc0_scratch2 cc0_scratch3 (v2of c) ) Q := by
  rw [k0_part14_eq_skeleton]
  unfold k0_part14_skel
  refine guarded m K (⟨22, by decide⟩ : Dev nD) (guard_iff c ⟨22, by decide⟩) (fun he => recv_own m c (congrArg Fin.val he).symm) (fun _ => rfl) (fun _ hne hk =>
    recv_one m K c ⟨22, by decide⟩ hne rfl rfl hk) ?_
  refine guarded m K (⟨23, by decide⟩ : Dev nD) (guard_iff c ⟨23, by decide⟩) (fun he => recv_own m c (congrArg Fin.val he).symm) (fun _ => rfl) (fun _ hne hk =>
    recv_one m K c ⟨23, by decide⟩ hne rfl rfl hk) ?_
  refine guarded m K (⟨24, by decide⟩ : Dev nD) (guard_iff c ⟨24, by decide⟩) (fun he => recv_own m c (congrArg Fin.val he).symm) (fun _ => rfl) (fun _ hne hk =>
    recv_one m K c ⟨24, by decide⟩ hne rfl rfl hk) ?_
  refine guarded m K (⟨25, by decide⟩ : Dev nD) (guard_iff c ⟨25, by decide⟩) (fun he => recv_own m c (congrArg Fin.val he).symm) (fun _ => rfl) (fun _ hne hk =>
    recv_one m K c ⟨25, by decide⟩ hne rfl rfl hk) ?_
  refine guarded m K (⟨26, by decide⟩ : Dev nD) (guard_iff c ⟨26, by decide⟩) (fun he => recv_own m c (congrArg Fin.val he).symm) (fun _ => rfl) (fun _ hne hk =>
    recv_one m K c ⟨26, by decide⟩ hne rfl rfl hk) ?_
  refine guarded m K (⟨27, by decide⟩ : Dev nD) (guard_iff c ⟨27, by decide⟩) (fun he => recv_own m c (congrArg Fin.val he).symm) (fun _ => rfl) (fun _ hne hk =>
    recv_one m K c ⟨27, by decide⟩ hne rfl rfl hk) ?_
  refine guarded m K (⟨28, by decide⟩ : Dev nD) (guard_iff c ⟨28, by decide⟩) (fun he => recv_own m c (congrArg Fin.val he).symm) (fun _ => rfl) (fun _ hne hk =>
    recv_one m K c ⟨28, by decide⟩ hne rfl rfl hk) ?_
  exact ret_step h

set_option maxHeartbeats 4000000 in
theorem part15 {Q : _ → sProp 𝕄} {R R₀ : sProp 𝕄}
    (h₀ : iprop(records m K ∗ recvS m c 32 ∗ R₀) ⊢ iprop(rAll c (landedBuf m c) ∗ R))
    (h : iprop(rAll c (landedBuf m c) ∗ R) ⊢ Q ⟨landedBuf m c, k0_pay9 (landedBuf m c), k0_pay10 (landedBuf m c), k0_pay11, k0_pay12, 1#32⟩) :
    iprop(records m K ∗ recvS m c 29 ∗ R₀) ⊢ WP c (k0_part15 (F := F) xM (Memref.isWhole_whole _) dM (Memref.isWhole_whole _) oM (Memref.isWhole_whole _)
      sM (Memref.isWhole_whole _) rM (Memref.isWhole_whole _) cc0_scratch2 cc0_scratch3 (v2of c)
      (Scalar.extui (Scalar.cmpi .ne (v2of c) 29#32))) Q := by
  rw [k0_part15_eq_skeleton]
  unfold k0_part15_skel
  refine guarded m K (⟨29, by decide⟩ : Dev nD) (guard_iff c ⟨29, by decide⟩) (fun he => recv_own m c (congrArg Fin.val he).symm) (fun _ => rfl) (fun _ hne hk =>
    recv_one m K c ⟨29, by decide⟩ hne rfl rfl hk) ?_
  refine guarded m K (⟨30, by decide⟩ : Dev nD) (guard_iff c ⟨30, by decide⟩) (fun he => recv_own m c (congrArg Fin.val he).symm) (fun _ => rfl) (fun _ hne hk =>
    recv_one m K c ⟨30, by decide⟩ hne rfl rfl hk) ?_
  refine guarded m K (⟨31, by decide⟩ : Dev nD) (guard_iff c ⟨31, by decide⟩) (fun he => recv_own m c (congrArg Fin.val he).symm) (fun _ => rfl) (fun _ hne hk =>
    recv_one m K c ⟨31, by decide⟩ hne rfl rfl hk) ?_
  refine h₀.trans ?_
  refine load_r c (landedBuf m c) ?_
  exact ret_step h

end Parts

end Cert.Exchange

end
-- ==== Proof.PartsD.lean ====
/-
# The parts of the body that wait for the copies out
-/
module

public import proofs.«01_k».proof.Proof.PartsA

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Parts

variable (K : Dev nD × CK → ℕ) (c : Dev nD)

set_option maxHeartbeats 4000000 in
theorem part16 {Q : _ → sProp 𝕄} {R R₀ : sProp 𝕄} (f : Vec F S512x256 .f32)
    (h₀ : iprop(oPts c (outAt m c) ∗ R₀) ⊢ iprop(records m K ∗ swS m c 0 ∗ R))
    (h : ∀ r, iprop(records m K ∗ swS m c 3 ∗ R) ⊢ Q r) :
    iprop(oPts c f ∗ R₀) ⊢ WP c (k0_part16 (F := F) xM (Memref.isWhole_whole _) dM (Memref.isWhole_whole _) oM (Memref.isWhole_whole _)
      sM (Memref.isWhole_whole _) rM (Memref.isWhole_whole _) cc0_scratch2 cc0_scratch3 c (v2of c)
      (landedBuf m c) (k0_pay9 (landedBuf m c)) (k0_pay10 (landedBuf m c)) k0_pay11 k0_pay12 1#32) Q := by
  rw [k0_part16_eq_skeleton]
  unfold k0_part16_skel
  refine load_o c f ?_
  refine store_o c f _ ?_
  refine h₀.trans ?_
  refine guarded m K (⟨0, by decide⟩ : Dev nD) (guard_iff c ⟨0, by decide⟩) (fun he => sw_own m c (congrArg Fin.val he).symm) (fun _ => rfl) (fun _ hne hk =>
    sw_one m K c ⟨0, by decide⟩ hne rfl rfl hk) ?_
  refine guarded m K (⟨1, by decide⟩ : Dev nD) (guard_iff c ⟨1, by decide⟩) (fun he => sw_own m c (congrArg Fin.val he).symm) (fun _ => rfl) (fun _ hne hk =>
    sw_one m K c ⟨1, by decide⟩ hne rfl rfl hk) ?_
  refine guarded m K (⟨2, by decide⟩ : Dev nD) (guard_iff c ⟨2, by decide⟩) (fun he => sw_own m c (congrArg Fin.val he).symm) (fun _ => rfl) (fun _ hne hk =>
    sw_one m K c ⟨2, by decide⟩ hne rfl rfl hk) ?_
  exact ret_step (h _)

set_option maxHeartbeats 4000000 in
theorem part17 {Q : _ → sProp 𝕄} {R : sProp 𝕄} (w : BitVec 1)
    (h : ∀ r, iprop(records m K ∗ swS m c 11 ∗ R) ⊢ Q r) :
    iprop(records m K ∗ swS m c 3 ∗ R) ⊢ WP c (k0_part17 (F := F) xM (Memref.isWhole_whole _) dM (Memref.isWhole_whole _) oM (Memref.isWhole_whole _)
      sM (Memref.isWhole_whole _) rM (Memref.isWhole_whole _) cc0_scratch2 cc0_scratch3 c (v2of c) w) Q := by
  rw [k0_part17_eq_skeleton]
  unfold k0_part17_skel
  refine guarded m K (⟨3, by decide⟩ : Dev nD) (guard_iff c ⟨3, by decide⟩) (fun he => sw_own m c (congrArg Fin.val he).symm) (fun _ => rfl) (fun _ hne hk =>
    sw_one m K c ⟨3, by decide⟩ hne rfl rfl hk) ?_
  refine guarded m K (⟨4, by decide⟩ : Dev nD) (guard_iff c ⟨4, by decide⟩) (fun he => sw_own m c (congrArg Fin.val he).symm) (fun _ => rfl) (fun _ hne hk =>
    sw_one m K c ⟨4, by decide⟩ hne rfl rfl hk) ?_
  refine guarded m K (⟨5, by decide⟩ : Dev nD) (guard_iff c ⟨5, by decide⟩) (fun he => sw_own m c (congrArg Fin.val he).symm) (fun _ => rfl) (fun _ hne hk =>
    sw_one m K c ⟨5, by decide⟩ hne rfl rfl hk) ?_
  refine guarded m K (⟨6, by decide⟩ : Dev nD) (guard_iff c ⟨6, by decide⟩) (fun he => sw_own m c (congrArg Fin.val he).symm) (fun _ => rfl) (fun _ hne hk =>
    sw_one m K c ⟨6, by decide⟩ hne rfl rfl hk) ?_
  refine guarded m K (⟨7, by decide⟩ : Dev nD) (guard_iff c ⟨7, by decide⟩) (fun he => sw_own m c (congrArg Fin.val he).symm) (fun _ => rfl) (fun _ hne hk =>
    sw_one m K c ⟨7, by decide⟩ hne rfl rfl hk) ?_
  refine guarded m K (⟨8, by decide⟩ : Dev nD) (guard_iff c ⟨8, by decide⟩) (fun he => sw_own m c (congrArg Fin.val he).symm) (fun _ => rfl) (fun _ hne hk =>
    sw_one m K c ⟨8, by decide⟩ hne rfl rfl hk) ?_
  refine guarded m K (⟨9, by decide⟩ : Dev nD) (guard_iff c ⟨9, by decide⟩) (fun he => sw_own m c (congrArg Fin.val he).symm) (fun _ => rfl) (fun _ hne hk =>
    sw_one m K c ⟨9, by decide⟩ hne rfl rfl hk) ?_
  refine guarded m K (⟨10, by decide⟩ : Dev nD) (guard_iff c ⟨10, by decide⟩) (fun he => sw_own m c (congrArg Fin.val he).symm) (fun _ => rfl) (fun _ hne hk =>
    sw_one m K c ⟨10, by decide⟩ hne rfl rfl hk) ?_
  exact ret_step (h _)

set_option maxHeartbeats 4000000 in
theorem part18 {Q : _ → sProp 𝕄} {R : sProp 𝕄}
    (h : ∀ r, iprop(records m K ∗ swS m c 20 ∗ R) ⊢ Q r) :
    iprop(records m K ∗ swS m c 11 ∗ R) ⊢ WP c (k0_part18 (F := F) xM (Memref.isWhole_whole _) dM (Memref.isWhole_whole _) oM (Memref.isWhole_whole _)
      sM (Memref.isWhole_whole _) rM (Memref.isWhole_whole _) cc0_scratch2 cc0_scratch3 c (v2of c) ) Q := by
  rw [k0_part18_eq_skeleton]
  unfold k0_part18_skel
  refine guarded m K (⟨11, by decide⟩ : Dev nD) (guard_iff c ⟨11, by decide⟩) (fun he => sw_own m c (congrArg Fin.val he).symm) (fun _ => rfl) (fun _ hne hk =>
    sw_one m K c ⟨11, by decide⟩ hne rfl rfl hk) ?_
  refine guarded m K (⟨12, by decide⟩ : Dev nD) (guard_iff c ⟨12, by decide⟩) (fun he => sw_own m c (congrArg Fin.val he).symm) (fun _ => rfl) (fun _ hne hk =>
    sw_one m K c ⟨12, by decide⟩ hne rfl rfl hk) ?_
  refine guarded m K (⟨13, by decide⟩ : Dev nD) (guard_iff c ⟨13, by decide⟩) (fun he => sw_own m c (congrArg Fin.val he).symm) (fun _ => rfl) (fun _ hne hk =>
    sw_one m K c ⟨13, by decide⟩ hne rfl rfl hk) ?_
  refine guarded m K (⟨14, by decide⟩ : Dev nD) (guard_iff c ⟨14, by decide⟩) (fun he => sw_own m c (congrArg Fin.val he).symm) (fun _ => rfl) (fun _ hne hk =>
    sw_one m K c ⟨14, by decide⟩ hne rfl rfl hk) ?_
  refine guarded m K (⟨15, by decide⟩ : Dev nD) (guard_iff c ⟨15, by decide⟩) (fun he => sw_own m c (congrArg Fin.val he).symm) (fun _ => rfl) (fun _ hne hk =>
    sw_one m K c ⟨15, by decide⟩ hne rfl rfl hk) ?_
  refine guarded m K (⟨16, by decide⟩ : Dev nD) (guard_iff c ⟨16, by decide⟩) (fun he => sw_own m c (congrArg Fin.val he).symm) (fun _ => rfl) (fun _ hne hk =>
    sw_one m K c ⟨16, by decide⟩ hne rfl rfl hk) ?_
  refine guarded m K (⟨17, by decide⟩ : Dev nD) (guard_iff c ⟨17, by decide⟩) (fun he => sw_own m c (congrArg Fin.val he).symm) (fun _ => rfl) (fun _ hne hk =>
    sw_one m K c ⟨17, by decide⟩ hne rfl rfl hk) ?_
  refine guarded m K (⟨18, by decide⟩ : Dev nD) (guard_iff c ⟨18, by decide⟩) (fun he => sw_own m c (congrArg Fin.val he).symm) (fun _ => rfl) (fun _ hne hk =>
    sw_one m K c ⟨18, by decide⟩ hne rfl rfl hk) ?_
  refine guarded m K (⟨19, by decide⟩ : Dev nD) (guard_iff c ⟨19, by decide⟩) (fun he => sw_own m c (congrArg Fin.val he).symm) (fun _ => rfl) (fun _ hne hk =>
    sw_one m K c ⟨19, by decide⟩ hne rfl rfl hk) ?_
  exact ret_step (h _)

set_option maxHeartbeats 4000000 in
theorem part19 {Q : _ → sProp 𝕄} {R : sProp 𝕄} (w : BitVec 32)
    (h : ∀ r, iprop(records m K ∗ swS m c 29 ∗ R) ⊢ Q r) :
    iprop(records m K ∗ swS m c 20 ∗ R) ⊢ WP c (k0_part19 (F := F) xM (Memref.isWhole_whole _) dM (Memref.isWhole_whole _) oM (Memref.isWhole_whole _)
      sM (Memref.isWhole_whole _) rM (Memref.isWhole_whole _) cc0_scratch2 cc0_scratch3 c (v2of c) w) Q := by
  rw [k0_part19_eq_skeleton]
  unfold k0_part19_skel
  refine guarded m K (⟨20, by decide⟩ : Dev nD) (guard_iff c ⟨20, by decide⟩) (fun he => sw_own m c (congrArg Fin.val he).symm) (fun _ => rfl) (fun _ hne hk =>
    sw_one m K c ⟨20, by decide⟩ hne rfl rfl hk) ?_
  refine guarded m K (⟨21, by decide⟩ : Dev nD) (guard_iff c ⟨21, by decide⟩) (fun he => sw_own m c (congrArg Fin.val he).symm) (fun _ => rfl) (fun _ hne hk =>
    sw_one m K c ⟨21, by decide⟩ hne rfl rfl hk) ?_
  refine guarded m K (⟨22, by decide⟩ : Dev nD) (guard_iff c ⟨22, by decide⟩) (fun he => sw_own m c (congrArg Fin.val he).symm) (fun _ => rfl) (fun _ hne hk =>
    sw_one m K c ⟨22, by decide⟩ hne rfl rfl hk) ?_
  refine guarded m K (⟨23, by decide⟩ : Dev nD) (guard_iff c ⟨23, by decide⟩) (fun he => sw_own m c (congrArg Fin.val he).symm) (fun _ => rfl) (fun _ hne hk =>
    sw_one m K c ⟨23, by decide⟩ hne rfl rfl hk) ?_
  refine guarded m K (⟨24, by decide⟩ : Dev nD) (guard_iff c ⟨24, by decide⟩) (fun he => sw_own m c (congrArg Fin.val he).symm) (fun _ => rfl) (fun _ hne hk =>
    sw_one m K c ⟨24, by decide⟩ hne rfl rfl hk) ?_
  refine guarded m K (⟨25, by decide⟩ : Dev nD) (guard_iff c ⟨25, by decide⟩) (fun he => sw_own m c (congrArg Fin.val he).symm) (fun _ => rfl) (fun _ hne hk =>
    sw_one m K c ⟨25, by decide⟩ hne rfl rfl hk) ?_
  refine guarded m K (⟨26, by decide⟩ : Dev nD) (guard_iff c ⟨26, by decide⟩) (fun he => sw_own m c (congrArg Fin.val he).symm) (fun _ => rfl) (fun _ hne hk =>
    sw_one m K c ⟨26, by decide⟩ hne rfl rfl hk) ?_
  refine guarded m K (⟨27, by decide⟩ : Dev nD) (guard_iff c ⟨27, by decide⟩) (fun he => sw_own m c (congrArg Fin.val he).symm) (fun _ => rfl) (fun _ hne hk =>
    sw_one m K c ⟨27, by decide⟩ hne rfl rfl hk) ?_
  refine guarded m K (⟨28, by decide⟩ : Dev nD) (guard_iff c ⟨28, by decide⟩) (fun he => sw_own m c (congrArg Fin.val he).symm) (fun _ => rfl) (fun _ hne hk =>
    sw_one m K c ⟨28, by decide⟩ hne rfl rfl hk) ?_
  exact ret_step (h _)

end Parts

end Cert.Exchange

end
-- ==== Proof.Body.lean ====
/-
# The body of the kernel on one device, from its parts
-/
module

public import proofs.«01_k».proof.Proof.Glue
public import proofs.«01_k».proof.Proof.PartsB
public import proofs.«01_k».proof.Proof.PartsC
public import proofs.«01_k».proof.Proof.PartsD

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem bind_step {c : Dev nD} {α β : Type} {p : Prog (TpuEff nD τ sig (Elt F) Λ₀ .tc) α} {k : α → Prog (TpuEff nD τ sig (Elt F) Λ₀ .tc) β}
    {Q : β → sProp 𝕄} {P : sProp 𝕄} (h : P ⊢ WP c p (fun a => WP c (k a) Q)) : P ⊢ WP c (p >>= k) Q := by
  show P ⊢ wp frame (wpE (defs₀ (F := F)) 𝒱₀ (c : Thread nD τ) none) Set.univ (p >>= k) Q
  rw [wp_bind]
  exact h

/-- What the body leaves: nothing owed, the buffers with their contents, every cell at zero. -/
def bodyEnd (c : Dev nD) : sProp 𝕄 :=
  iprop(ow c 0 ∗ xPts m c ∗ dPts m c ∗ oPts c (outAt m c) ∗ sAll c (sendBuf m c) ∗ rAll c (landedBuf m c)
    ∗ semVal (barCell c) 0 ∗ (bigSep Finset.univ fun e => semVal (sendCell c e) 0) ∗ bigSep Finset.univ fun s => semVal (recvCell c s) 0)

/-- What a device's body starts from, the buffers and what it owes apart. -/
def tokens (c : Dev nD) : sProp 𝕄 := iprop(tokB c ∗ tokC c ∗ posB c 0 ∗ posS c ∗ posR c ∗ crB c ∗ crR c)

theorem close_bar (K : Dev nD × CK → ℕ) (c : Dev nD) : iprop(records m K ∗ posB c 1) ⊢ iprop(|={Set.univ}=> semVal (barCell c) 0) :=
  (sep_mono_right (closing_one m (barCell c))).trans (close_one m K (c, .inl ()))
theorem close_send (K : Dev nD × CK → ℕ) (c : Dev nD) :
    iprop(records m K ∗ closeS m c) ⊢ iprop(|={Set.univ}=> bigSep Finset.univ fun e => semVal (sendCell c e) 0) :=
  close_all m K fun e => (c, .inr (.inl e))
theorem close_recv (K : Dev nD × CK → ℕ) (c : Dev nD) :
    iprop(records m K ∗ closeR m c) ⊢ iprop(|={Set.univ}=> bigSep Finset.univ fun s => semVal (recvCell c s) 0) :=
  close_all m K fun s => (c, .inr (.inr s))

section Body

/-! ## What is put aside between the parts -/

theorem glue_sig (K : Dev nD × CK → ℕ) (c : Dev nD) (W : sProp 𝕄) (f0 : Vec F S512x256 .f32) (f1 f2 : Vec F S1024x256 .f32) :
    iprop(xPts m c ∗ dPts m c ∗ (records m K ∗ ow c (O₀ c) ∗ tokens c ∗ oPts c f0 ∗ sAll c f1 ∗ rAll c f2 ∗ W))
      ⊢ iprop(records m K ∗ sigS c 0 ∗ (sAll c f1 ∗ (crB c ∗ posB c 0 ∗ rPts c c f2 ∗ tokC c ∗ posS c ∗ posR c ∗ crR c ∗ oPts c f0 ∗ xPts m c ∗ dPts m c ∗ W))) := by
  unfold tokens
  iintro ⟨Hx, Hd, Hrec, HO, ⟨HtB, HtC, HpB, HpS, HpR, HcB, HcR⟩, Ho, Hs, Hr, HW⟩
  ihave Hg := (to_sig c f2) $$ [HO HtB Hr]
  · isplitl [HO]; · iexact HO
    isplitl [HtB]; · iexact HtB
    iexact Hr
  icases Hg with ⟨Hsig, Hown⟩
  isplitl [Hrec]; · iexact Hrec
  isplitl [Hsig]; · iexact Hsig
  isplitl [Hs]; · iexact Hs
  isplitl [HcB]; · iexact HcB
  isplitl [HpB]; · iexact HpB
  isplitl [Hown]; · iexact Hown
  isplitl [HtC]; · iexact HtC
  isplitl [HpS]; · iexact HpS
  isplitl [HpR]; · iexact HpR
  isplitl [HcR]; · iexact HcR
  isplitl [Ho]; · iexact Ho
  isplitl [Hx]; · iexact Hx
  isplitl [Hd]; · iexact Hd
  iexact HW

theorem glue_bar (K : Dev nD × CK → ℕ) (c : Dev nD) (W : sProp 𝕄) (f0 : Vec F S512x256 .f32) (f2 : Vec F S1024x256 .f32) :
    iprop(records m K ∗ sigS c 32 ∗ (sAll c (sendBuf m c) ∗ (crB c ∗ posB c 0 ∗ rPts c c f2 ∗ tokC c ∗ posS c ∗ posR c ∗ crR c ∗ oPts c f0 ∗ xPts m c ∗ dPts m c ∗ W)))
      ⊢ iprop(records m K ∗ (sigS c 32 ∗ cred (tallyAt (barCell c) () 32) ∗ atPos ER (barCell c) 0 ∅ 0)
        ∗ (sAll c (sendBuf m c) ∗ rPts c c f2 ∗ tokC c ∗ posS c ∗ posR c ∗ crR c ∗ oPts c f0 ∗ xPts m c ∗ dPts m c ∗ W)) := by
  unfold crB posB
  iintro ⟨Hrec, Hsig, Hs, HcB, HpB, H⟩
  isplitl [Hrec]; · iexact Hrec
  isplitl [Hsig HcB HpB]
  · isplitl [Hsig]; · iexact Hsig
    isplitl [HcB] <;> iassumption
  isplitl [Hs]; · iexact Hs
  iexact H

theorem glue_send (K : Dev nD × CK → ℕ) (c : Dev nD) (W : sProp 𝕄) (f0 : Vec F S512x256 .f32) (f2 : Vec F S1024x256 .f32) :
    iprop(records m K ∗ (ow c (owedRecv c 0) ∗ atPos ER (barCell c) 1 ∅ 0 ∗ bigSep Finset.univ (barPay (F := F) c))
        ∗ (sAll c (sendBuf m c) ∗ rPts c c f2 ∗ tokC c ∗ posS c ∗ posR c ∗ crR c ∗ oPts c f0 ∗ xPts m c ∗ dPts m c ∗ W))
      ⊢ iprop(records m K ∗ sendS m c 0 ∗ (sPts c c (sendBuf m c) ∗ (posB c 1 ∗ rPts c c f2 ∗ posS c ∗ posR c ∗ crR c ∗ oPts c f0 ∗ xPts m c ∗ dPts m c ∗ W))) := by
  unfold posB
  iintro ⟨Hrec, ⟨HO, HpB, HP⟩, Hs, Hown, HtC, H⟩
  ihave Hg := (to_send m c) $$ [HO HP HtC Hs]
  · isplitl [HO]; · iexact HO
    isplitl [HP]; · iexact HP
    isplitl [HtC] <;> iassumption
  icases Hg with ⟨Hsend, Hss⟩
  isplitl [Hrec]; · iexact Hrec
  isplitl [Hsend]; · iexact Hsend
  isplitl [Hss]; · iexact Hss
  isplitl [HpB]; · iexact HpB
  isplitl [Hown]; · iexact Hown
  iexact H

theorem glue_own (K : Dev nD × CK → ℕ) (c : Dev nD) (W : sProp 𝕄) (f0 : Vec F S512x256 .f32) (f2 : Vec F S1024x256 .f32) :
    iprop(records m K ∗ sendS m c 32 ∗ (sPts c c (sendBuf m c) ∗ (posB c 1 ∗ rPts c c f2 ∗ posS c ∗ posR c ∗ crR c ∗ oPts c f0 ∗ xPts m c ∗ dPts m c ∗ W)))
      ⊢ iprop(rPts c c f2 ∗ (records m K ∗ sendS m c 32 ∗ sPts c c (sendBuf m c) ∗ posB c 1 ∗ posS c ∗ posR c ∗ crR c ∗ oPts c f0 ∗ xPts m c ∗ dPts m c ∗ W)) := by
  iintro ⟨Hrec, Hsend, Hss, HpB, Hown, H⟩
  isplitl [Hown]; · iexact Hown
  isplitl [Hrec]; · iexact Hrec
  isplitl [Hsend]; · iexact Hsend
  isplitl [Hss]; · iexact Hss
  isplitl [HpB]; · iexact HpB
  iexact H

theorem glue_recv (K : Dev nD × CK → ℕ) (c : Dev nD) (W : sProp 𝕄) (f0 : Vec F S512x256 .f32) :
    iprop(rPts c c (landedBuf m c) ∗ (records m K ∗ sendS m c 32 ∗ sPts c c (sendBuf m c) ∗ posB c 1 ∗ posS c ∗ posR c ∗ crR c ∗ oPts c f0 ∗ xPts m c ∗ dPts m c ∗ W))
      ⊢ iprop(records m K ∗ recvS m c 0 ∗ (sent c ∗ sPts c c (sendBuf m c) ∗ posB c 1 ∗ posS c ∗ oPts c f0 ∗ xPts m c ∗ dPts m c ∗ W)) := by
  iintro ⟨Hown, Hrec, Hsend, Hss, HpB, HpS, HpR, HcR, H⟩
  ihave Hg := (to_recv m c) $$ [Hsend Hown HpR HcR]
  · isplitl [Hsend]; · iexact Hsend
    isplitl [Hown]; · iexact Hown
    isplitl [HpR] <;> iassumption
  icases Hg with ⟨Hr, Hsent⟩
  isplitl [Hrec]; · iexact Hrec
  isplitl [Hr]; · iexact Hr
  isplitl [Hsent]; · iexact Hsent
  isplitl [Hss]; · iexact Hss
  isplitl [HpB]; · iexact HpB
  isplitl [HpS]; · iexact HpS
  iexact H

theorem glue_all (K : Dev nD × CK → ℕ) (c : Dev nD) (W : sProp 𝕄) (f0 : Vec F S512x256 .f32) :
    iprop(records m K ∗ recvS m c 32 ∗ (sent c ∗ sPts c c (sendBuf m c) ∗ posB c 1 ∗ posS c ∗ oPts c f0 ∗ xPts m c ∗ dPts m c ∗ W))
      ⊢ iprop(rAll c (landedBuf m c) ∗ (records m K ∗ ow c 0 ∗ closeR m c ∗ sent c ∗ sPts c c (sendBuf m c) ∗ posB c 1 ∗ posS c ∗ oPts c f0 ∗ xPts m c ∗ dPts m c ∗ W)) := by
  iintro ⟨Hrec, Hr, H⟩
  ihave Hg := (from_recv m c) $$ Hr
  icases Hg with ⟨HO, Hall, Hcl⟩
  isplitl [Hall]; · iexact Hall
  isplitl [Hrec]; · iexact Hrec
  isplitl [HO]; · iexact HO
  isplitl [Hcl]; · iexact Hcl
  iexact H

theorem glue_out (K : Dev nD × CK → ℕ) (c : Dev nD) (W : sProp 𝕄) (f0 : Vec F S512x256 .f32) :
    iprop(rAll c (landedBuf m c) ∗ (records m K ∗ ow c 0 ∗ closeR m c ∗ sent c ∗ sPts c c (sendBuf m c) ∗ posB c 1 ∗ posS c ∗ oPts c f0 ∗ xPts m c ∗ dPts m c ∗ W))
      ⊢ iprop(oPts c f0 ∗ (rAll c (landedBuf m c) ∗ records m K ∗ ow c 0 ∗ closeR m c ∗ sent c ∗ sPts c c (sendBuf m c) ∗ posB c 1 ∗ posS c ∗ xPts m c ∗ dPts m c ∗ W)) := by
  iintro ⟨Hall, Hrec, HO, Hcl, Hsent, Hss, HpB, HpS, Ho, H⟩
  isplitl [Ho]; · iexact Ho
  isplitl [Hall]; · iexact Hall
  isplitl [Hrec]; · iexact Hrec
  isplitl [HO]; · iexact HO
  isplitl [Hcl]; · iexact Hcl
  isplitl [Hsent]; · iexact Hsent
  isplitl [Hss]; · iexact Hss
  isplitl [HpB]; · iexact HpB
  isplitl [HpS]; · iexact HpS
  iexact H

theorem glue_sw (K : Dev nD × CK → ℕ) (c : Dev nD) (W : sProp 𝕄) :
    iprop(oPts c (outAt m c) ∗ (rAll c (landedBuf m c) ∗ records m K ∗ ow c 0 ∗ closeR m c ∗ sent c ∗ sPts c c (sendBuf m c) ∗ posB c 1 ∗ posS c ∗ xPts m c ∗ dPts m c ∗ W))
      ⊢ iprop(records m K ∗ swS m c 0 ∗ (oPts c (outAt m c) ∗ rAll c (landedBuf m c) ∗ closeR m c ∗ posB c 1 ∗ xPts m c ∗ dPts m c ∗ W)) := by
  iintro ⟨Ho, Hall, Hrec, HO, Hcl, Hsent, Hss, HpB, HpS, H⟩
  ihave Hg := (to_sw m c) $$ [HO Hsent HpS Hss]
  · isplitl [HO]; · iexact HO
    isplitl [Hsent]; · iexact Hsent
    isplitl [HpS] <;> iassumption
  isplitl [Hrec]; · iexact Hrec
  isplitl [Hg]; · iexact Hg
  isplitl [Ho]; · iexact Ho
  isplitl [Hall]; · iexact Hall
  isplitl [Hcl]; · iexact Hcl
  isplitl [HpB]; · iexact HpB
  iexact H

theorem glue_end (K : Dev nD × CK → ℕ) (c : Dev nD) (W : sProp 𝕄) :
    iprop(records m K ∗ swS m c 32 ∗ (oPts c (outAt m c) ∗ rAll c (landedBuf m c) ∗ closeR m c ∗ posB c 1 ∗ xPts m c ∗ dPts m c ∗ (bodyEnd m c -∗ W)))
      ⊢ iprop(|={Set.univ}=> W) := by
  iintro ⟨#Hrec, Hsw, Ho, Hall, Hcl, HpB, Hx, Hd, HW⟩
  ihave Hg := (from_sw m c) $$ Hsw
  icases Hg with ⟨HO, Hs, HcS⟩
  imod (close_bar m K c) $$ [HpB] with HvB
  · isplitr; · iexact Hrec
    iexact HpB
  imod (close_send m K c) $$ [HcS] with HvS
  · isplitr; · iexact Hrec
    iexact HcS
  imod (close_recv m K c) $$ [Hcl] with HvR
  · isplitr; · iexact Hrec
    iexact Hcl
  imodintro
  iapply HW
  unfold bodyEnd
  isplitl [HO]; · iexact HO
  isplitl [Hx]; · iexact Hx
  isplitl [Hd]; · iexact Hd
  isplitl [Ho]; · iexact Ho
  isplitl [Hs]; · iexact Hs
  isplitl [Hall]; · iexact Hall
  isplitl [HvB]; · iexact HvB
  isplitl [HvS]; · iexact HvS
  iexact HvR

end Body

theorem ret_upd {c : Dev nD} {α : Type} {Q : α → sProp 𝕄} {a : α} {P : sProp 𝕄} (h : P ⊢ iprop(|={Set.univ}=> Q a)) : P ⊢ WP c (Prog.ret a) Q := by
  show P ⊢ wp frame (wpE (defs₀ (F := F)) 𝒱₀ (c : Thread nD τ) none) Set.univ (Prog.ret a) Q
  rw [wp_ret]
  exact h

set_option maxHeartbeats 4000000 in
/-- The body of the kernel on device `c`. -/
theorem sound_body (K : Dev nD × CK → ℕ) (c : Dev nD) (f0 : Vec F S512x256 .f32) (f1 f2 : Vec F S1024x256 .f32) (Q : PUnit → sProp 𝕄) :
    iprop(xPts m c ∗ dPts m c ∗ (records m K ∗ ow c (O₀ c) ∗ tokens c ∗ oPts c f0 ∗ sAll c f1 ∗ rAll c f2 ∗ (bodyEnd m c -∗ Q ⟨⟩)))
      ⊢ WP c (cc0_body (F := F) xM (Memref.isWhole_whole _) dM (Memref.isWhole_whole _) oM (Memref.isWhole_whole _)
        sM (Memref.isWhole_whole _) rM (Memref.isWhole_whole _) cc0_scratch2 cc0_scratch3) Q := by
  rw [cc0_body_eq_skeleton]
  unfold cc0_body_skel
  refine bind_step (part1 m c ?_)
  refine (glue_sig m K c _ f0 f1 f2).trans ?_
  refine bind_step (part2 m K c f1 ?_)
  refine bind_step (part3 m K c _ fun _ => ?_)
  refine bind_step (part4 m K c fun r4 => ?_)
  refine bind_step (part5 m K c _ _ fun _ => ?_)
  refine (glue_bar m K c _ f0 f2).trans ?_
  refine bind_step (part6 m K c _ fun w6 => ?_)
  refine (glue_send m K c _ f0 f2).trans ?_
  refine bind_step (part7 m K c _ fun _ => ?_)
  refine bind_step (part8 m K c _ fun _ => ?_)
  refine bind_step (part9 m K c _ fun r9 => ?_)
  refine bind_step (part10 m K c _ _ ?_)
  refine (glue_own m K c _ f0 f2).trans ?_
  refine bind_step (part11 m K c f2 (glue_recv m K c _ f0) fun _ => ?_)
  refine bind_step (part12 m K c ?_)
  refine bind_step (part13 m K c ?_)
  refine bind_step (part14 m K c ?_)
  refine bind_step (part15 m K c (glue_all m K c _ f0) ?_)
  refine (glue_out m K c _ f0).trans ?_
  refine bind_step (part16 m K c f0 (glue_sw m K c _) fun _ => ?_)
  refine bind_step (part17 m K c _ fun _ => ?_)
  refine bind_step (part18 m K c fun _ => ?_)
  refine bind_step (part19 m K c _ fun _ => ?_)
  refine guarded m K (⟨29, by decide⟩ : Dev nD) (guard_iff c ⟨29, by decide⟩) (fun he => sw_own m c (congrArg Fin.val he).symm) (fun _ => rfl) (fun _ hne hk =>
    sw_one m K c ⟨29, by decide⟩ hne rfl rfl hk) ?_
  refine guarded m K (⟨30, by decide⟩ : Dev nD) (guard_iff c ⟨30, by decide⟩) (fun he => sw_own m c (congrArg Fin.val he).symm) (fun _ => rfl) (fun _ hne hk =>
    sw_one m K c ⟨30, by decide⟩ hne rfl rfl hk) ?_
  refine guarded m K (⟨31, by decide⟩ : Dev nD) (guard_iff c ⟨31, by decide⟩) (fun he => sw_own m c (congrArg Fin.val he).symm) (fun _ => rfl) (fun _ hne hk =>
    sw_one m K c ⟨31, by decide⟩ hne rfl rfl hk) ?_
  exact ret_upd (glue_end m K c (Q ⟨⟩))

end Cert.Exchange

end
-- ==== Proof.Deal.lean ====
/-
# What the launch deals the devices: positions, duty tokens, credits
-/
module

public import proofs.«01_k».proof.Proof.Body
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores: its send and its receive semaphores -/

abbrev osem : Dev nD ⊕ Dev nD → SemLoc sig := fun k => csem (.inr k)

theorem osem_scoped : ∀ k, (osem k).isScoped .tc = true := by decide
theorem osem_stage : ∀ k, kindOf (osem k) ≠ none := fun k h => by
  have h' := (kindOf_csem (.inr k)).symm.trans h
  cases h'
theorem ownSemFacts : Pipeline.OwnSemFacts cfg0.spec osem where
  isScoped := osem_scoped
  inj := fun k k' h => Sum.inr.inj (csem_injective h)
  disj := fun k w s h => osem_stage k (by rw [h]; fin_cases w <;> fin_cases s <;> rfl)

def cells : Finset (GSem nD τ sig) := Finset.univ.map ⟨kcell, kcell_injective⟩

/-! ## The duty tokens, as minted: (device, its cell, which duty) -/

abbrev TK : Type := Dev nD ⊕ (Dev nD ⊕ Dev nD)
def tokOf (cj : Dev nD × TK) : GSem nD τ sig × ℕ × Dev nD := match cj.2 with
  | .inl d => (barCell cj.1, 0, d)
  | .inr (.inl e) => (sendCell cj.1 e, 0, 0)
  | .inr (.inr s) => (recvCell cj.1 s, 0, 0)

def ckOf : TK → CK
  | .inl _ => .inl ()
  | .inr k => .inr k

theorem tokOf_cell (c : Dev nD) (j : TK) : (tokOf (c, j)).1 = kcell (c, ckOf j) := by
  rcases j with d | e | s <;> rfl

theorem tokOf_injective : Function.Injective (tokOf : Dev nD × TK → GSem nD τ sig × ℕ × Dev nD) := by
  rintro ⟨c, j⟩ ⟨c', j'⟩ h
  have h1 : kcell (c, ckOf j) = kcell (c', ckOf j') := by
    rw [← tokOf_cell, ← tokOf_cell, h]
  have h2 := kcell_injective h1
  have hc : c = c' := congrArg Prod.fst h2
  have hk : ckOf j = ckOf j' := congrArg Prod.snd h2
  subst hc
  rcases j with d | k <;> rcases j' with d' | k'
  · have : d = d' := congrArg (fun x : GSem nD τ sig × ℕ × Dev nD => x.2.2) h
    rw [this]
  · cases hk
  · cases hk
  · have : k = k' := Sum.inr.inj hk
    rw [this]
def mint : Finset (GSem nD τ sig × ℕ × Dev nD) := Finset.univ.map ⟨tokOf, tokOf_injective⟩

def u₀ : UU := (initOf (Pipeline.cells cfgs cellOf_inj) (Pipeline.launchToks cfgs cellOf_inj), initOf cells mint)

/-- The duty tokens of device `c`'s own cells. -/
def toks (c : Dev nD) : sProp 𝕄 :=
  iprop((bigSep Finset.univ fun d => dutyTok ER (barCell c) 0 d) ∗ (bigSep Finset.univ fun e => dutyTok ER (sendCell c e) 0 0)
    ∗ bigSep Finset.univ fun s => dutyTok ER (recvCell c s) 0 0)

/-- What the launch element deals device `c`. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)

theorem fund_cells : BI.own (ER (initOf cells mint)) ⊢ (|==> bigSep Finset.univ (G m) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep mint (fun x => (dutyTok ER x.1 x.2.1 x.2.2 : sProp 𝕄)) = bigSep Finset.univ fun c : Dev nD => toks c := by
    unfold mint; rw [bigSep_map, bigSep_univ_prod]
    exact bigSep_congr fun c _ => by unfold toks; rw [bigSep_univ_sum, bigSep_univ_sum]; rfl
  iintro HX
  imod (Rounds.fund ER (sched m) cells mint) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

theorem ownSems0_eq (c : Dev nD) : (Pipeline.ownSems0 (Ix := Unit) (Name := ℕ) (U := UU) (Lvl := ℕ) (Val := Elt F) (τ := τ) osem c : sProp 𝕄)
    = iprop((bigSep Finset.univ fun e => semVal (sendCell c e) 0) ∗ bigSep Finset.univ fun s => semVal (recvCell c s) 0) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_CK (Φ : CK → sProp 𝕄) :
    bigSep Finset.univ Φ = iprop(Φ (.inl ()) ∗ (bigSep Finset.univ fun e => Φ (.inr (.inl e))) ∗ bigSep Finset.univ fun s => Φ (.inr (.inr s))) := by
  rw [bigSep_univ_sum, bigSep_univ_sum, bigSep_univ_of_subsingleton ()]
  rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS]
  · iexact HS
  · iexact HV

theorem alloc_cells (c : Dev nD) :
    iprop((bigSep Finset.univ fun k : CK => semVal (kcell (c, k)) 0) ∗ bigSep Finset.univ fun k : CK => roundState ER (sched m) (kcell (c, k)) 0)
      ⊢ (|={Set.univ}=> bigSep Finset.univ fun k : CK => iprop(∃ κ : ℕ, cellInv ER (sched m) κ (kcell (c, k))) : sProp 𝕄) := by
  rw [← bigSep_sep']
  exact (bigSep_mono fun k _ => (Rounds.body_intro ER (sched m) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (alloc_cells m c) $$ [Hv Hst] with Hinv
  · isplitl [Hv] <;> iassumption
  imodintro
  isplitl [Hinv]; · iexact Hinv
  isplitl [Hat]; · iexact Hat
  iexact Htok

/-! ## Every token to the device that pays with it -/

def pays (c : Dev nD) : sProp 𝕄 := iprop(tokB c ∗ tokC c)

theorem drop_own (p : Prop) [Decidable p] (A : sProp 𝕄) : A ⊢ if p then iprop(emp) else A := by
  by_cases h : p
  · rw [if_pos h]; iintro -; iempintro
  · rw [if_neg h]

theorem tokC_of (c : Dev nD) :
    iprop((bigSep Finset.univ fun e => dutyTok ER (sendCell c e) 0 0) ∗ bigSep Finset.univ fun e => dutyTok ER (recvCell e c) 0 0) ⊢ (tokC c : sProp 𝕄) := by
  unfold tokC
  rw [← bigSep_sep' (Finset.univ : Finset (Dev nD)) (fun e => (dutyTok ER (sendCell c e) 0 0 : sProp 𝕄)) (fun e => dutyTok ER (recvCell e c) 0 0)]
  exact bigSep_mono fun e _ => drop_own (e = c) _

theorem toks_around : (bigSep Finset.univ fun c : Dev nD => (toks c : sProp 𝕄)) ⊢ bigSep Finset.univ fun c : Dev nD => pays c := by
  have hB : (bigSep Finset.univ fun c : Dev nD => bigSep Finset.univ fun d : Dev nD => (dutyTok ER (barCell c) 0 d : sProp 𝕄))
      = bigSep Finset.univ fun d : Dev nD => tokB d := by
    unfold tokB; exact bigSep_univ_comm fun (c d : Dev nD) => (dutyTok ER (barCell c) 0 d : sProp 𝕄)
  have hR : (bigSep Finset.univ fun c : Dev nD => bigSep Finset.univ fun s : Dev nD => (dutyTok ER (recvCell c s) 0 0 : sProp 𝕄))
      = bigSep Finset.univ fun s : Dev nD => bigSep Finset.univ fun c : Dev nD => dutyTok ER (recvCell c s) 0 0 :=
    bigSep_univ_comm fun (c s : Dev nD) => (dutyTok ER (recvCell c s) 0 0 : sProp 𝕄)
  have hC : iprop((bigSep Finset.univ fun c : Dev nD => bigSep Finset.univ fun e : Dev nD => (dutyTok ER (sendCell c e) 0 0 : sProp 𝕄))
      ∗ bigSep Finset.univ fun s : Dev nD => bigSep Finset.univ fun c : Dev nD => dutyTok ER (recvCell c s) 0 0)
      ⊢ bigSep Finset.univ fun c : Dev nD => tokC c := by
    rw [← bigSep_sep' (Finset.univ : Finset (Dev nD)) (fun c => bigSep Finset.univ fun e : Dev nD => (dutyTok ER (sendCell c e) 0 0 : sProp 𝕄))
      (fun s => bigSep Finset.univ fun c : Dev nD => dutyTok ER (recvCell c s) 0 0)]
    exact bigSep_mono fun c _ => tokC_of c
  unfold toks pays
  rw [bigSep_sep', bigSep_sep', bigSep_sep', hB, hR]
  iintro ⟨H1, H2, H3⟩
  isplitl [H1]; · iexact H1
  iapply hC
  isplitl [H2] <;> iassumption

/-- What the global step gives device `c`, the levels apart. -/
def shared (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)
instance shared_persistent (K : Dev nD × CK → ℕ) : BI.Persistent (shared m K) := by unfold shared; infer_instance

def linear (c : Dev nD) : sProp 𝕄 := iprop((bigSep Finset.univ fun k : CK => atPos ER (kcell (c, k)) 0 ∅ 0) ∗ pays c)
def G' (c : Dev nD) : sProp 𝕄 := iprop(∃ K, shared m K ∗ linear c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × CK → ℕ) (c : Dev nD) : iprop(shared m K ∗ linear c) ⊢ G' m c := by
  unfold G'
  iintro H
  iexists K
  iexact H

theorem regroup :
    (bigSep Finset.univ fun c : Dev nD => iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  have hl : iprop((bigSep Finset.univ fun c : Dev nD => bigSep Finset.univ fun k : CK => (atPos ER (kcell (c, k)) 0 ∅ 0 : sProp 𝕄)) ∗ bigSep Finset.univ fun c : Dev nD => pays c)
      ⊢ bigSep Finset.univ fun c : Dev nD => linear c := by
    unfold linear
    exact Entails.of_eq (bigSep_sep' Finset.univ (fun c : Dev nD => bigSep Finset.univ fun k : CK => (atPos ER (kcell (c, k)) 0 ∅ 0 : sProp 𝕄)) pays).symm
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (with_persistent (R := shared m K) fun c _ => G'_intro m K c)
  isplitr
  · unfold shared; isplitl; · iexact HI
    iexact HR
  · iapply hl
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem bar_eq_iff {a b : Dev nD} : Iff (barCell a = barCell b) (a = b) :=
  ⟨fun h => congrArg Prod.fst (kcell_injective (a₁ := (a, .inl ())) (a₂ := (b, .inl ())) h), fun h => h ▸ rfl⟩
theorem recv_eq_iff {a b s t : Dev nD} : Iff (recvCell a s = recvCell b t) (a = b ∧ s = t) := by
  constructor
  · intro h
    have h' := kcell_injective (a₁ := (a, .inr (.inr s))) (a₂ := (b, .inr (.inr t))) h
    exact ⟨congrArg Prod.fst h', Sum.inr.inj (Sum.inr.inj (congrArg Prod.snd h'))⟩
  · rintro ⟨rfl, rfl⟩; rfl
theorem bar_ne_recv (a b s : Dev nD) : barCell a ≠ recvCell b s := fun h => by
  have h' := congrArg Prod.snd (kcell_injective (a₁ := (a, .inl ())) (a₂ := (b, .inr (.inr s))) h)
  cases h'

theorem owedBar_at (g : GSem nD τ sig) : owedBar 0 g () = ∑ e : Dev nD, (tallyAt (barCell e) () 1 : CellTallies nD τ sig Unit) g () := by
  unfold owedBar; rw [todo_zero, Finset.sum_apply, Finsupp.finset_sum_apply]
theorem owedRecv_at (d : Dev nD) (g : GSem nD τ sig) :
    owedRecv d 0 g () = ∑ e : Dev nD, (if e = d then 0 else tallyAt (recvCell e d) () N : CellTallies nD τ sig Unit) g () := by
  unfold owedRecv; rw [todo_zero, Finset.sum_apply, Finsupp.finset_sum_apply]

theorem owed_bar (d c : Dev nD) : O₀ d (barCell c) () = 1 := by
  unfold O₀
  rw [Pi.add_apply, Finsupp.add_apply, owedBar_at, owedRecv_at]
  have h1 : ∀ e : Dev nD, (if e = d then 0 else tallyAt (recvCell e d) () N : CellTallies nD τ sig Unit) (barCell c) () = 0 := fun e => by
    by_cases h : e = d
    · rw [if_pos h]; rfl
    · rw [if_neg h, tallyAt_apply, if_neg (fun h' => bar_ne_recv c e d h'.1)]
  have h2 : ∀ e : Dev nD, (tallyAt (barCell e) () 1 : CellTallies nD τ sig Unit) (barCell c) () = if e = c then 1 else 0 := fun e => by
    rw [tallyAt_apply]
    by_cases h : e = c
    · rw [if_pos h, if_pos ⟨bar_eq_iff.mpr h.symm, rfl⟩]
    · rw [if_neg h, if_neg (fun h' => h (bar_eq_iff.mp h'.1).symm)]
  rw [Finset.sum_congr rfl fun e _ => h1 e, Finset.sum_congr rfl fun e _ => h2 e, Finset.sum_const_zero, Nat.zero_add,
    Finset.sum_ite_eq' Finset.univ c fun _ => 1, if_pos (Finset.mem_univ _)]

theorem owed_recv (d c s : Dev nD) (hs : s ≠ c) : O₀ d (recvCell c s) () = if d = s then N else 0 := by
  unfold O₀
  rw [Pi.add_apply, Finsupp.add_apply, owedBar_at, owedRecv_at]
  have h1 : ∀ e : Dev nD, (if e = d then 0 else tallyAt (recvCell e d) () N : CellTallies nD τ sig Unit) (recvCell c s) ()
      = if e = c then (if d = s then N else 0) else 0 := fun e => by
    by_cases h : e = d
    · rw [if_pos h]
      by_cases h' : e = c
      · rw [if_pos h', if_neg (fun h'' => hs (h''.symm.trans (h.symm.trans h')))]; rfl
      · rw [if_neg h']; rfl
    · rw [if_neg h, tallyAt_apply]
      by_cases h' : e = c
      · rw [if_pos h']
        by_cases h'' : d = s
        · rw [if_pos h'', if_pos ⟨recv_eq_iff.mpr ⟨h'.symm, h''.symm⟩, rfl⟩]
        · rw [if_neg h'', if_neg (fun hh => h'' (recv_eq_iff.mp hh.1).2.symm)]
      · rw [if_neg h', if_neg (fun hh => h' (recv_eq_iff.mp hh.1).1.symm)]
  have h2 : ∀ e : Dev nD, (tallyAt (barCell e) () 1 : CellTallies nD τ sig Unit) (recvCell c s) () = 0 := fun e => by
    rw [tallyAt_apply, if_neg (fun h' => bar_ne_recv e c s h'.1.symm)]
  rw [Finset.sum_congr rfl fun e _ => h1 e, Finset.sum_congr rfl fun e _ => h2 e, Finset.sum_const_zero, Nat.add_zero,
    Finset.sum_ite_eq' Finset.univ c fun _ => _, if_pos (Finset.mem_univ _)]

theorem launch_bar (c : Dev nD) :
    tallyOn (barCell c) (launchCredit (Pipeline.owing O₀) 0 (barCell c)) = (tallyAt (barCell c) () 32 : CellTallies nD τ sig Unit) := by
  unfold tallyAt; refine congrArg _ (Finsupp.ext fun u => ?_); cases u
  rw [Pipeline.launchCredit_owing, Finsupp.single_eq_same, Finset.sum_congr rfl fun d _ => owed_bar d c]
  show ∑ d : Dev nD, 1 = 32
  rw [Finset.sum_const, Finset.card_univ, Fintype.card_fin, smul_eq_mul]; rfl

theorem launch_recv (c s : Dev nD) (hs : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s hs, Finset.sum_ite_eq' Finset.univ s fun _ => N,
    if_pos (Finset.mem_univ _)]

/-- A device's launch credit, at its barrier cell and its receive cells. -/
theorem creds (c : Dev nD) : (Pipeline.launchCred O₀ c : sProp 𝕄) ⊢ iprop(crB c ∗ crR c) := by
  have hsub : ∀ Φ : SemLoc sig → sProp 𝕄, bigSep Finset.univ Φ ⊢ bigSep (Finset.univ.map ⟨csem, csem_injective⟩) Φ :=
    fun Φ => bigSep_subset (Finset.subset_univ _)
  unfold Pipeline.launchCred
  refine (hsub _).trans ?_
  rw [bigSep_map, bigSep_CK]
  unfold crB crR
  have hb : (cred (tallyOn (barCell c) (launchCredit (Pipeline.owing O₀) 0 (barCell c))) : sProp 𝕄) ⊢ cred (tallyAt (barCell c) () 32) :=
    Entails.of_eq (congrArg (fun t => (cred t : sProp 𝕄)) (launch_bar c))
  have hr : (bigSep Finset.univ fun s : Dev nD => (cred (tallyOn (recvCell c s) (launchCredit (Pipeline.owing O₀) 0 (recvCell c s))) : sProp 𝕄))
      ⊢ bigSep Finset.univ fun s : Dev nD => if s = c then iprop(emp) else cred (tallyAt (recvCell c s) () N) := bigSep_mono fun s _ => (drop_own (s = c) _).trans (Entails.of_eq (by
    by_cases h : s = c
    · rw [if_pos h, if_pos h]
    · rw [if_neg h, if_neg h, launch_recv c s h]))
  iintro ⟨HB, -, HR⟩
  isplitl [HB]
  · iapply hb; iexact HB
  · iapply hr; iexact HR

end Cert.Exchange

end
-- ==== Proof.Run.lean ====
/-
# The run of the kernel on the mesh
-/
module

public import proofs.«01_k».proof.Proof.Deal
public import Idealize.ShloMosaic.Lib.Pipeline.CollectiveSegs
public import proofs.«01_k».proof.Proof.Gen.KernelIdeal.Launch
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device `c`'s body starts from. -/
def start (c : Dev nD) : sProp 𝕄 := iprop(∃ K, records m K ∗ tokens c)
def Φ₀ (c : Dev nD) : sProp 𝕄 := iprop(start m c ∗ (∃ f, sAll c f) ∗ ∃ f, rAll c f)
/-- What it leaves beside the staging buffers: both buffers with their contents, every cell at zero. -/
def Φ₁ (c : Dev nD) : sProp 𝕄 :=
  iprop(sAll c (sendBuf m c) ∗ rAll c (landedBuf m c) ∗ (bigSep Finset.univ fun e => semVal (sendCell c e) 0)
    ∗ (bigSep Finset.univ fun s => semVal (recvCell c s) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => dstg m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ m c ∗ (dats m ρ 0 c).owesAt () t0_0.succ ∗ stg c cc0_stg0_0 (xstg m c) ∗ stg c cc0_stg1_0 (dstg m c) ∗ stg c cc0_stg2_0 (outAt m c))

theorem body_post (c : Dev nD) : bodyEnd m c ⊢ bodyPost m ρ c := by
  unfold bodyEnd bodyPost Φ₁ Dat.owesAt Pipeline.owesWithin ow
  rw [show (dats m ρ 0 c).owed t0_0.succ = 0 from rfl]
  iintro ⟨⟨%W, HO⟩, Hx, Hd, Ho, Hs, Hr, HvB, HvS, HvR⟩
  isplitl [Hs Hr HvB HvS HvR]
  · isplitl [Hs]; · iexact Hs
    isplitl [Hr]; · iexact Hr
    isplitl [HvS]; · iexact HvS
    isplitl [HvR]; · iexact HvR
    iexact HvB
  isplitl [HO]
  · iexists W
    isplitr; · ipureintro; exact fun _ _ => Or.inl trivial
    iexact HO
  isplitl [Hx]
  · iexists _; isplitr; · (ipureintro; rfl)
    iexact Hx
  isplitl [Hd]
  · iexists _; isplitr; · (ipureintro; rfl)
    iexact Hd
  iexists _; isplitr; · (ipureintro; rfl)
  iexact Ho

theorem body_run (c : Dev nD) :
    bodyPre m ρ c ⊢ WP c (cc0_body (F := F) xM (Memref.isWhole_whole _) dM (Memref.isWhole_whole _) oM (Memref.isWhole_whole _)
        sM (Memref.isWhole_whole _) rM (Memref.isWhole_whole _) cc0_scratch2 cc0_scratch3) (fun _ => bodyPost m ρ c) := by
  unfold bodyPre Φ₀ start
  iintro ⟨⟨⟨%K, Hrec, Htok⟩, ⟨%f1, Hs⟩, ⟨%f2, Hr⟩⟩, Ho, ⟨%d0, %g0, %hg0, Hx⟩, ⟨%d1, %g1, %hg1, Hd⟩, ⟨%d2, %g2, %hg2, Hout⟩⟩
  have hx : g0 = xstg m c := by rw [hg0]; unfold Dat.before; rw [if_pos (fetch0_0 t0_0)]; rfl
  have hd : g1 = dstg m c := by rw [hg1]; unfold Dat.before; rw [if_pos (fetch0_1 t0_0)]; rfl
  subst hx hd
  unfold Dat.owesAt Pipeline.owesWithin
  icases Ho with ⟨%W, %hW, HO⟩
  rw [show (dats m ρ 0 c).owed t0_0.castSucc = O₀ c from rfl]
  iapply (sound_body m K c g2 f1 f2 (fun _ => bodyPost m ρ c))
  isplitl [Hx]; · iexact Hx
  isplitl [Hd]; · iexact Hd
  isplitl [Hrec]; · iexact Hrec
  isplitl [HO]
  · unfold ow; iexists W; iexact HO
  isplitl [Htok]; · iexact Htok
  isplitl [Hout]; · iexact Hout
  isplitl [Hs]; · iexact Hs
  isplitl [Hr]; · iexact Hr
  iintro H
  iapply (body_post m ρ c)
  iexact H

set_option maxRecDepth 4000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_run m ρ c

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' shared linear pays
  rw [bigSep_CK]
  iintro ⟨-, Hlev, Hcr, -, ⟨%K, ⟨HI, HR⟩, ⟨HpB, HpS, HpR⟩, HtB, HtC⟩⟩
  ihave Hc := (creds (F := F) c) $$ Hcr
  icases Hc with ⟨HcB, HcR⟩
  imodintro
  isplitl
  · unfold start records tokens posB posS posR
    iexists K
    isplitl [HI HR Hlev]
    · isplitl [HI]; · iexact HI
      isplitl [HR] <;> iassumption
    isplitl [HtB]; · iexact HtB
    isplitl [HtC]; · iexact HtC
    isplitl [HpB]; · iexact HpB
    isplitl [HpS]; · iexact HpS
    isplitl [HpR]; · iexact HpR
    isplitl [HcB] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁
  iintro ⟨Hs, Hr, HzS, HzV, HzB⟩
  isplitl [HzB]; · iexact HzB
  isplitl [HzS HzV]
  · isplitl [HzS] <;> iassumption
  isplitl [Hs]
  · iexists (sendBuf m c); iexact Hs
  · iexists (landedBuf m c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values and from any memory with zero counters every weakly fair execution of @main on the thirty-two
    devices terminates, every device's arrays are as computed and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = m ((c : Thread nD τ).loc main_arg0) :=
  (dats (F := F) m ρ 0 c).arrAt_in (0 : Fin 3) rfl _
theorem finalA_d (c : Dev nD) : finalA m ρ c (1 : Fin 3) = m ((c : Thread nD τ).loc main_arg1) :=
  (dats (F := F) m ρ 0 c).arrAt_in (1 : Fin 3) rfl _

end Cert.Exchange

end
-- ==== Proof.Frames.lean ====
/-
# The frames: each program runs, leaves its arguments as they were, and every counter ends at zero
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Tactic

@[expose] public section

noncomputable section

namespace Cert.Exchange

open Idealize.ShloMosaic Idealize.SL.Sem

theorem frame_ideal : Cert.quiescent_KernelIdeal := by
  intro m ρ _
  exact (θ_run Cert.KernelIdeal.defs _ _).mono
    (fun _ h => ⟨fun c => ⟨(h.1 c (0 : Fin 3)).trans (finalA_x m ρ c), (h.1 c (1 : Fin 3)).trans (finalA_d m ρ c)⟩, h.2⟩)
    (run_main (F := Ideal) m ρ)

/-- The frame at the bit-exact values, said of the idealized program's text. -/
def FrameOfText : Prop :=
  ∀ (m : (ℓ : Loc Cert.KernelIdeal.nD Cert.KernelIdeal.τ Cert.KernelIdeal.sig) → Buf (Elt Bits) ℓ) (ρ : Dev Cert.KernelIdeal.nD → PrngReg), True →
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

theorem frame_text : FrameOfText := by
  intro m ρ _
  exact (θ_run Cert.KernelIdeal.defs _ _).mono
    (fun _ h => ⟨fun c => ⟨(h.1 c (0 : Fin 3)).trans (finalA_x m ρ c), (h.1 c (1 : Fin 3)).trans (finalA_d m ρ c)⟩, h.2⟩)
    (run_main (F := Bits) m ρ)

set_option maxRecDepth 8000 in
/-- The idealized program is the program's own text (no operation was rewritten). -/
theorem text_eq : Cert.quiescent_Kernel = FrameOfText := by sl_kernel_rfl

theorem frame_bits : Cert.quiescent_Kernel := by rw [text_eq]; exact frame_text

theorem frame_reference : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Exchange

end
-- ==== Proof.Order.lean ====
/-
# A stable sort by destination, counted

The row a stable sort puts at a position is the one whose destination class and place inside the class add up to
that position. So the rows of one class, in their order, are read either from the sorted order or as a sum that
keeps one row.
-/
module

public import Idealize.ShloMosaic.Lib.SortFacts
public import Mathlib.Algebra.BigOperators.Fin
public import Mathlib.Data.EReal.Basic

@[expose] public section

namespace Cert.Exchange

open Idealize.ShloMosaic
open Finset

variable {n : ℕ} (D : Fin n → ℤ)

/-- The rows of a smaller destination. -/
def firstOf (c : ℤ) : ℕ := (univ.filter fun g : Fin n => D g < c).card
/-- The rows of a destination. -/
def countOf (c : ℤ) : ℕ := (univ.filter fun g : Fin n => D g = c).card
/-- The earlier rows of a row's own destination. -/
def placeOf (g : Fin n) : ℕ := (univ.filter fun g' : Fin n => g' < g ∧ D g' = D g).card
/-- Smaller destination first, then the earlier row. -/
def Earlier (a b : Fin n) : Prop := D a < D b ∨ (D a = D b ∧ a < b)
/-- The comparison of destinations. -/
def less (a b : Fin n) : Bool := decide (D a < D b)

theorem earlier_insert (a : Fin n) (l : List (Fin n)) (hl : l.Pairwise (Earlier D)) (ha : ∀ b ∈ l, a < b) :
    (insertBefore (less D) a l).Pairwise (Earlier D) := by
  induction l with
  | nil => exact List.pairwise_singleton _ _
  | cons b l ih =>
    unfold insertBefore
    have hl' := List.pairwise_cons.mp hl
    split
    · rename_i h
      have h : D b < D a := by simpa [less] using h
      refine List.pairwise_cons.mpr ⟨fun c hc => ?_, ih hl'.2 fun c hc => ha c (List.mem_cons_of_mem _ hc)⟩
      rcases List.mem_cons.mp ((perm_insertBefore (less D) a l).mem_iff.mp hc) with rfl | hc
      · exact Or.inl h
      · exact hl'.1 c hc
    · rename_i h
      have h : D a ≤ D b := by simpa [less] using h
      refine List.pairwise_cons.mpr ⟨fun c hc => ?_, hl⟩
      have hac := ha c hc
      have hd : D a ≤ D c := by
        rcases List.mem_cons.mp hc with rfl | hc
        · exact h
        · rcases hl'.1 c hc with h1 | h1
          · omega
          · omega
      rcases lt_or_eq_of_le hd with h1 | h1
      · exact Or.inl h1
      · exact Or.inr ⟨h1, hac⟩

theorem earlier_sort (l : List (Fin n)) (hl : l.Pairwise (· < ·)) : (stableSort (less D) l).Pairwise (Earlier D) := by
  induction l with
  | nil => exact List.Pairwise.nil
  | cons a l ih =>
    unfold stableSort
    have hl' := List.pairwise_cons.mp hl
    exact earlier_insert D a _ (ih hl'.2) fun b hb => hl'.1 b ((perm_stableSort (less D) l).mem_iff.mp hb)

theorem earlier_sortedFrom {p q : Fin n} (h : q < p) : Earlier D (sortedFrom (less D) q) (sortedFrom (less D) p) := by
  have hp : ∀ a b : Fin (sortPositions n (less D)).length, a < b →
      Earlier D ((sortPositions n (less D)).get a) ((sortPositions n (less D)).get b) :=
    List.pairwise_iff_get.mp (earlier_sort D (List.finRange n) (List.pairwise_lt_finRange n))
  exact hp (q.cast (length_sortPositions n _).symm) (p.cast (length_sortPositions n _).symm) h

theorem earlier_asymm {a b : Fin n} (h : Earlier D a b) : ¬ Earlier D b a := by
  rcases h with h | h <;> rintro (h' | h') <;> omega

theorem sortedFrom_pos (p : Fin n) :
    p.val = firstOf D (D (sortedFrom (less D) p)) + placeOf D (sortedFrom (less D) p) := by
  classical
  set g := sortedFrom (less D) p with hg
  have h1 : (univ.filter fun q : Fin n => q < p).card = p.val := by
    have : (univ.filter fun q : Fin n => q < p) = Finset.Iio p := by ext; simp
    rw [this, Fin.card_Iio]
  have h2 : (univ.filter fun q : Fin n => q < p).card = (univ.filter fun g' : Fin n => Earlier D g' g).card := by
    refine Finset.card_bij (fun q _ => sortedFrom (less D) q) ?_ ?_ ?_
    · intro q hq
      exact Finset.mem_filter.mpr ⟨Finset.mem_univ _, earlier_sortedFrom D (Finset.mem_filter.mp hq).2⟩
    · intro a _ b _ h
      exact sortedFrom_injective _ h
    · intro g' hg'
      obtain ⟨q, rfl⟩ := sortedFrom_surjective (less D) g'
      refine ⟨q, Finset.mem_filter.mpr ⟨Finset.mem_univ _, ?_⟩, rfl⟩
      have he := (Finset.mem_filter.mp hg').2
      rcases lt_trichotomy q p with h | h | h
      · exact h
      · subst h; exact absurd he (earlier_asymm D he)
      · exact absurd he (earlier_asymm D (earlier_sortedFrom D h))
  rw [← h1, h2, firstOf, placeOf, ← Finset.card_union_of_disjoint]
  · congr 1
    ext g'
    rw [Finset.mem_union, Finset.mem_filter, Finset.mem_filter, Finset.mem_filter]
    constructor
    · rintro ⟨h0, h | ⟨h, h'⟩⟩
      · exact Or.inl ⟨h0, h⟩
      · exact Or.inr ⟨h0, h', h⟩
    · rintro (⟨h0, h⟩ | ⟨h0, h, h'⟩)
      · exact ⟨h0, Or.inl h⟩
      · exact ⟨h0, Or.inr ⟨h', h⟩⟩
  · rw [Finset.disjoint_filter]
    intro g' _ h1 h2
    omega

theorem placeOf_lt (g : Fin n) : placeOf D g < countOf D (D g) := by
  refine Finset.card_lt_card ⟨fun a ha => ?_, fun h => ?_⟩
  · exact Finset.mem_filter.mpr ⟨Finset.mem_univ _, (Finset.mem_filter.mp ha).2.2⟩
  · have := h (Finset.mem_filter.mpr ⟨Finset.mem_univ g, rfl⟩)
    exact absurd (Finset.mem_filter.mp this).2.1 (lt_irrefl _)

theorem first_add_count_le {a b : ℤ} (h : a < b) : firstOf D a + countOf D a ≤ firstOf D b := by
  classical
  rw [firstOf, countOf, firstOf, ← Finset.card_union_of_disjoint]
  · refine Finset.card_le_card fun g hg => ?_
    simp only [Finset.mem_union, Finset.mem_filter, Finset.mem_univ, true_and] at hg ⊢
    omega
  · rw [Finset.disjoint_filter]
    intro g' _ h1 h2
    omega

theorem first_add_count_le_n (c : ℤ) : firstOf D c + countOf D c ≤ n := by
  classical
  rw [firstOf, countOf, ← Finset.card_union_of_disjoint]
  · exact (Finset.card_le_univ _).trans_eq (Fintype.card_fin n)
  · rw [Finset.disjoint_filter]
    intro g' _ h1 h2
    omega

/-- The row a stable sort puts `k` places after a destination's first. -/
theorem sortedFrom_class (c : ℤ) (k : ℕ) (p : Fin n) (hk : k < countOf D c) (hp : p.val = firstOf D c + k) :
    D (sortedFrom (less D) p) = c ∧ placeOf D (sortedFrom (less D) p) = k := by
  have h0 := sortedFrom_pos D p
  have h1 := placeOf_lt D (sortedFrom (less D) p)
  rcases lt_trichotomy (D (sortedFrom (less D) p)) c with h | h | h
  · have := first_add_count_le D h; omega
  · refine ⟨h, ?_⟩; rw [h] at h0; omega
  · have := first_add_count_le D h; omega

/-- The sum that keeps the row of a destination at a place. -/
theorem sum_class {α : Type} [AddCommMonoid α] (x : Fin n → α) (c : ℤ) (k : ℕ) (p : Fin n) (hk : k < countOf D c)
    (hp : p.val = firstOf D c + k) :
    (∑ g, if D g = c ∧ placeOf D g = k then x g else 0) = x (sortedFrom (less D) p) := by
  obtain ⟨h1, h2⟩ := sortedFrom_class D c k p hk hp
  rw [Finset.sum_eq_single (sortedFrom (less D) p)]
  · rw [if_pos ⟨h1, h2⟩]
  · intro g _ hg
    refine if_neg fun h => hg ?_
    obtain ⟨q, rfl⟩ := sortedFrom_surjective (less D) g
    have := sortedFrom_pos D q
    rw [h.1, h.2] at this
    rw [Fin.ext (this.trans hp.symm)]
  · intro h; exact absurd (Finset.mem_univ _) h

/-- No row of a destination stands at a place past its count. -/
theorem sum_class_none {α : Type} [AddCommMonoid α] (x : Fin n → α) (c : ℤ) (k : ℕ) (hk : countOf D c ≤ k) :
    (∑ g, if D g = c ∧ placeOf D g = k then x g else 0) = 0 := by
  refine Finset.sum_eq_zero fun g _ => if_neg fun h => ?_
  have := placeOf_lt D g
  rw [h.1, h.2] at this
  omega

/-! ### The rows dealt to thirty-two devices -/

section Blocks

variable {a b : ℕ} (E : Fin a × Fin b ≃ Fin n) (hE : ∀ s r, (E (s, r)).val = s.val * b + r.val)

include hE in
theorem block_lt {s s' : Fin a} {r r' : Fin b} : E (s', r') < E (s, r) ↔ s' < s ∨ (s' = s ∧ r' < r) := by
  rw [Fin.lt_def, hE, hE, Fin.lt_def, Fin.lt_def, Fin.ext_iff]
  have h1 := r.isLt
  have h2 := r'.isLt
  rcases lt_trichotomy s'.val s.val with h | h | h
  · have : (s'.val + 1) * b ≤ s.val * b := Nat.mul_le_mul_right _ h
    rw [Nat.add_mul] at this
    constructor
    · intro _; exact Or.inl h
    · intro _; omega
  · rw [h]; omega
  · have : (s.val + 1) * b ≤ s'.val * b := Nat.mul_le_mul_right _ h
    rw [Nat.add_mul] at this
    constructor
    · intro _; omega
    · rintro (_ | _) <;> omega

include hE in
/-- A row's place: the rows of its destination on the earlier devices, and those before it on its own. -/
theorem placeOf_block (s : Fin a) (r : Fin b) :
    placeOf D (E (s, r)) = (∑ s' : Fin a, if s' < s then countOf (fun r' => D (E (s', r'))) (D (E (s, r))) else 0)
      + placeOf (fun r' => D (E (s, r'))) r := by
  classical
  unfold placeOf countOf
  simp only [Finset.card_filter]
  rw [← Equiv.sum_comp E, Fintype.sum_prod_type]
  have hs : (∑ r' : Fin b, if r' < r ∧ D (E (s, r')) = D (E (s, r)) then 1 else 0)
      = ∑ s' : Fin a, if s' = s then (∑ r' : Fin b, if r' < r ∧ D (E (s', r')) = D (E (s, r)) then 1 else 0) else 0 := by
    rw [Finset.sum_ite_eq', if_pos (Finset.mem_univ s)]
  rw [hs, ← Finset.sum_add_distrib]
  refine Finset.sum_congr rfl fun s' _ => ?_
  simp only [block_lt E hE]
  rcases lt_trichotomy s' s with h | h | h
  · rw [if_pos h, if_neg h.ne, add_zero]
    refine Finset.sum_congr rfl fun r' _ => ?_
    simp only [h, true_or, true_and]
  · subst h
    rw [if_neg (lt_irrefl _), if_pos rfl, zero_add]
    refine Finset.sum_congr rfl fun r' _ => ?_
    simp only [lt_irrefl, false_or, true_and]
  · rw [if_neg (lt_asymm h), if_neg h.ne', add_zero]
    refine Finset.sum_eq_zero fun r' _ => if_neg ?_
    rintro ⟨h1 | ⟨h1, _⟩, _⟩
    · exact lt_asymm h h1
    · exact h.ne' h1

end Blocks

end Cert.Exchange
-- ==== Proof.Vals.lean ====
/-
# Reading the operations at an index, over the reals

Ones and zeros from comparisons, products with a selecting matrix, and the comparison that says two whole numbers
are the same.
-/
module

public import Idealize.ShloMosaic.Lib.MatmulPlain
public import Idealize.ShloMosaic.Lib.ValueIdx
public import Idealize.ShloMosaic.Lib.IdealHost
public import Idealize.ShloMosaic.Lib.WordCmp
public import Idealize.ShloMosaic.Lib.Pipeline.Value
public import Idealize.ShloMosaic.Lib.Pointwise.Select

@[expose] public section

namespace Cert.Exchange

open Idealize.ShloMosaic hiding ix2
open Idealize.ShloMosaic.ValueIdx Idealize.ShloMosaic.WordCmp
open Finset

/-- A comparison's bit, widened and made a number. -/
theorem bit_value (b : BitVec 1) : (FloatOps.sitofp .f32 (b.setWidth 32) : Ideal .f32) = if b = 1#1 then (1 : EReal) else 0 := by
  have hb : b = 0#1 ∨ b = 1#1 := by revert b; decide
  rcases hb with rfl | rfl
  · show ((((0#1 : BitVec 1).setWidth 32).toInt : ℝ) : EReal) = _
    simp
  · show ((((1#1 : BitVec 1).setWidth 32).toInt : ℝ) : EReal) = _
    simp

/-- The same of a comparison given as a proposition. -/
theorem bit_value_of {b : BitVec 1} {p : Prop} [Decidable p] (h : b = 1#1 ↔ p) :
    (FloatOps.sitofp .f32 (b.setWidth 32) : Ideal .f32) = if p then (1 : EReal) else 0 := by
  rw [bit_value]; simp only [h]

theorem eq_one_iff {w : ℕ} (x y : BitVec w) : IntOp.cmpi .eq x y = 1#1 ↔ x = y := by
  rw [cmpi_eq_eq, ofBool_decide_eq_one_iff]

/-- A word's value as a number. -/
theorem word_value (b : BitVec 32) : (FloatOps.sitofp .f32 b : Ideal .f32) = ((b.toInt : ℝ) : EReal) := rfl

theorem half_value : (FloatOps.ofBits .f32 0x3F000000#32 : Ideal .f32) = (((1 / 2 : ℝ)) : EReal) := by
  show Ideal.ofBits .f32 0x3F000000#32 = _
  simp [Ideal.ofBits, Ideal.ieee, -EReal.coe_mul]; norm_num

theorem thirtyTwo_value : (FloatOps.ofBits .f32 0x42000000#32 : Ideal .f32) = ((32 : ℝ) : EReal) := by
  show Ideal.ofBits .f32 0x42000000#32 = _
  simp [Ideal.ofBits, Ideal.ieee, -EReal.coe_mul]; norm_num

theorem one_value : (FloatOps.ofBits .f32 0x3F800000#32 : Ideal .f32) = ((1 : ℝ) : EReal) :=
  Ideal.ofBits_one_f32

theorem zero_value : (FloatOps.ofBits .f32 0x00000000#32 : Ideal .f32) = ((0 : ℝ) : EReal) :=
  Ideal.ofBits_zero_f32

/-- Two whole numbers less than a half apart are the same. -/
theorem near_iff (a b : ℤ) :
    Ideal.cmp .olt (max (((a : ℝ) : EReal) - ((b : ℝ) : EReal)) (-(((a : ℝ) : EReal) - ((b : ℝ) : EReal)))) ((1 / 2 : ℝ) : EReal) = 1#1 ↔ a = b := by
  show BitVec.ofBool (decide (max (((a : ℝ) : EReal) - ((b : ℝ) : EReal)) (-(((a : ℝ) : EReal) - ((b : ℝ) : EReal))) < ((1 / 2 : ℝ) : EReal))) = 1#1 ↔ a = b
  rw [ofBool_decide_eq_one_iff, ← EReal.coe_sub, ← EReal.coe_neg, max_lt_iff, EReal.coe_lt_coe_iff, EReal.coe_lt_coe_iff]
  constructor
  · rintro ⟨h1, h2⟩
    have h1' : ((a - b : ℤ) : ℝ) < 1 := by push_cast; linarith
    have h2' : ((b - a : ℤ) : ℝ) < 1 := by push_cast; linarith
    have h1'' : a - b < 1 := by exact_mod_cast h1'
    have h2'' : b - a < 1 := by exact_mod_cast h2'
    omega
  · rintro rfl
    constructor <;> simp

theorem near_of {x y h : EReal} {a b : ℤ} (hx : x = ((a : ℝ) : EReal)) (hy : y = ((b : ℝ) : EReal)) (hh : h = ((1 / 2 : ℝ) : EReal)) :
    Ideal.cmp .olt (max (x - y) (-(x - y))) h = 1#1 ↔ a = b := by
  subst hx hy hh; exact near_iff a b

/-- A product of two plain matrices from zero, at an index. -/
theorem product_apply {M K N : ℕ} (dd : DotDims ⟨2, ![M, K]⟩ ⟨2, ![K, N]⟩ ⟨2, ![M, N]⟩) (h : dd = DotDims.plain M K N)
    (prec : Option ContractPrecision) (lhs : FVec Ideal ⟨2, ![M, K]⟩ .f32) (rhs : FVec Ideal ⟨2, ![K, N]⟩ .f32) (r : Fin M) (c : Fin N) :
    matmul dd prec lhs rhs (constant ⟨2, ![M, N]⟩ .f32 0x00000000#32) (ix2 r c) = ∑ k : Fin K, lhs (ix2 r k) * rhs (ix2 k c) := by
  subst h
  simp only [matmul]
  rw [Ideal.matmul_plain_apply, constant_apply, Ideal.ofBits_zero_f32, zero_add]

/-- Counting by a sum of ones. -/
theorem sum_ones {ι : Type} [Fintype ι] (p : ι → Prop) [DecidablePred p] :
    (∑ i, if p i then (1 : EReal) else 0) = (((univ.filter p).card : ℝ) : EReal) := by
  rw [Finset.sum_boole]; simp

/-- A row put under every row. -/
theorem row_apply {α : Type} {N M : ℕ} (hN : N ≠ 1) (x : (⟨2, ![1, N]⟩ : Shape).Idx → α) (h : (⟨2, ![1, N]⟩ : Shape).Broadcasts ⟨2, ![M, N]⟩)
    (a : Fin M) (b : Fin N) : broadcastTo ⟨2, ![M, N]⟩ x h (ix2 a b) = x (ix2 0 b) :=
  broadcastTo_apply x h _ _ fun ax => match ax with
    | ⟨0, _⟩ => rfl
    | ⟨1, _⟩ => (if_neg hN).symm

/-- A column put beside every column. -/
theorem col_apply {α : Type} {N M : ℕ} (hM : M ≠ 1) (x : (⟨2, ![M, 1]⟩ : Shape).Idx → α) (h : (⟨2, ![M, 1]⟩ : Shape).Broadcasts ⟨2, ![M, N]⟩)
    (a : Fin M) (b : Fin N) : broadcastTo ⟨2, ![M, N]⟩ x h (ix2 a b) = x (ix2 a 0) :=
  broadcastTo_apply x h _ _ fun ax => match ax with
    | ⟨0, _⟩ => (if_neg hM).symm
    | ⟨1, _⟩ => rfl

theorem pick_mul {p : Prop} [Decidable p] (y : EReal) : (if p then (1 : EReal) else 0) * y = if p then y else 0 := by
  split <;> simp

end Cert.Exchange
-- ==== Proof.Pack.lean ====
/-
# What a device packs

A device's send buffer: at the head of each rank's block the number of rows for that rank, under it those rows in
their order.
-/
module

public import proofs.«01_k».proof.Proof.Gen.KernelIdeal.Skeleton
public import proofs.«01_k».proof.Proof.Order
public import proofs.«01_k».proof.Proof.Vals

@[expose] public section

noncomputable section

namespace Cert.Exchange

open Cert.KernelIdeal Cert.KernelIdeal.Gen
open Idealize.ShloMosaic hiding ix1 ix2 addf_apply mulf_apply subf_apply
open Idealize.ShloMosaic.ValueIdx Idealize.ShloMosaic.WordCmp
open Finset

/-- The destinations a device holds, as whole numbers. -/
def dest (d : IVec S1x512 32) (r : Fin 512) : ℤ := (d (ix2 0 r)).toInt

theorem small_toInt {k : ℕ} (h : k < 2 ^ 31) : (BitVec.ofNat 32 k).toInt = (k : ℤ) := toInt_ofNat_of_lt h

theorem ofNat_eq_iff {k : ℕ} (h : k < 2 ^ 31) (w : BitVec 32) : BitVec.ofNat 32 k = w ↔ w.toInt = (k : ℤ) := by
  rw [← small_toInt h, ← BitVec.toInt_inj]
  exact eq_comm

variable (d : IVec S1x512 32)

theorem pay3_apply (e : Fin 32) (r : Fin 512) :
    k0_pay3 (F := Ideal) d (ix2 e r) = if dest d r = (e.val : ℤ) then (1 : EReal) else 0 := by
  unfold k0_pay3 k0_pay2
  rw [sitofp_apply, extui_apply]
  refine bit_value_of ?_
  show IntOp.cmpi .eq (iota .tc S32x512 32 [0] iota_S32x512_d0_w32 (ix2 e r)) (broadcastTo S32x512 (shapeCast S1x512 d _) _ (ix2 e r)) = 1#1 ↔ _
  rw [eq_one_iff, shapeCast_self, iota_single_apply]
  rw [show broadcastTo S32x512 d broadcasts_S1x512_S32x512 (ix2 e r) = d (ix2 0 r) from row_apply (by decide) d _ e r]
  exact ofNat_eq_iff (by have := e.isLt; show e.val < _; omega) _

theorem pay4_apply (e : Fin 32) :
    k0_pay4 (F := Ideal) d (ix2 e 0) = ((countOf (dest d) (e.val : ℤ) : ℝ) : EReal) := by
  unfold k0_pay4
  rw [shapeCast_apply _ _ (ix2 e 0 : S32x1.Idx) (ix1 e : S32.Idx) (by
    rw [Shape.rowMajor_val_one, Shape.rowMajor_val_two]; show e.val = e.val * 1 + 0; omega)]
  refine (Ideal.multiReduction_add_single _ _ _ _ _ _).trans ?_
  rw [countOf, ← sum_ones]
  refine Finset.sum_congr rfl fun r _ => ?_
  exact (congrArg _ (show _ = ix2 e r from Shape.idx_ext₂ rfl rfl)).trans (pay3_apply d e r)

/-- The rows up to a row with a given destination. -/
def upTo (e : ℤ) (r : Fin 512) : ℕ := (univ.filter fun k : Fin 512 => dest d k = e ∧ k ≤ r).card

theorem upTo_self (r : Fin 512) : upTo d (dest d r) r = placeOf (dest d) r + 1 := by
  classical
  unfold upTo placeOf
  rw [← Finset.card_insert_of_notMem (a := r) (by simp)]
  congr 1
  ext k
  simp only [Finset.mem_insert, Finset.mem_filter, Finset.mem_univ, true_and]
  constructor
  · rintro ⟨h1, h2⟩
    rcases eq_or_lt_of_le h2 with h | h
    · exact Or.inl h
    · exact Or.inr ⟨h, h1⟩
  · rintro (rfl | ⟨h, h1⟩)
    · exact ⟨rfl, le_refl _⟩
    · exact ⟨h1, h.le⟩

/-- Where a row goes in the send buffer, as the kernel computes it. -/
def slotOf (r : Fin 512) : ℤ :=
  dest d r * 32 + (if 0 ≤ dest d r ∧ dest d r < 32 then (placeOf (dest d) r : ℤ) + 1 else 0)

theorem le_one_iff (a b : Fin 512) : IntOp.cmpi .sle (BitVec.ofNat 32 a.val) (BitVec.ofNat 32 b.val) = 1#1 ↔ a ≤ b := by
  rw [cmpi_sle_eq, ofBool_decide_eq_one_iff, small_toInt (by omega), small_toInt (by omega), Fin.le_def]
  omega

theorem pay5_apply (i : Fin 1024) (r : Fin 512) :
    k0_pay5 (F := Ideal) d (ix2 i r) = if (i.val : ℤ) = slotOf d r then (1 : EReal) else 0 := by
  have hC : ∀ (e : Fin 32), matmul (F := Ideal) dot_S32x512_S512x512_S32x512_1_0_0_1_n_n (some .fp32) (k0_pay3 (F := Ideal) d)
      (sitofp .f32 (extui 32 (cmpi .sle (iota .tc S512x512 32 [0] iota_S512x512_d0_w32) (iota .tc S512x512 32 [1] iota_S512x512_d1_w32)) natLt_1_32))
      (constant S32x512 .f32 0x00000000#32) (ix2 e r) = ((upTo d e.val r : ℝ) : EReal) := by
    intro e
    refine (product_apply _ rfl _ _ _ e r).trans ?_
    rw [upTo, ← sum_ones]
    refine Finset.sum_congr rfl fun k _ => ?_
    rw [pay3_apply, sitofp_apply, extui_apply, pick_mul]
    rw [bit_value_of (p := k ≤ r) (by
      show IntOp.cmpi .sle (iota .tc S512x512 32 [0] iota_S512x512_d0_w32 (ix2 k r)) (iota .tc S512x512 32 [1] iota_S512x512_d1_w32 (ix2 k r)) = 1#1 ↔ _
      rw [iota_single_apply, iota_single_apply]
      exact le_one_iff k r)]
    rw [ite_and]
  have hR : multiReduction (F := Ideal) .add [0] S512 (mulf (k0_pay3 (F := Ideal) d) (matmul dot_S32x512_S512x512_S32x512_1_0_0_1_n_n (some .fp32) (k0_pay3 (F := Ideal) d)
      (sitofp .f32 (extui 32 (cmpi .sle (iota .tc S512x512 32 [0] iota_S512x512_d0_w32) (iota .tc S512x512 32 [1] iota_S512x512_d1_w32)) natLt_1_32))
      (constant S32x512 .f32 0x00000000#32))) 0x00000000#32 reduces_S32x512_S512 (.inl rfl) rfl (ix1 r)
      = (((if 0 ≤ dest d r ∧ dest d r < 32 then placeOf (dest d) r + 1 else 0 : ℕ) : ℝ) : EReal) := by
    refine (Ideal.multiReduction_add_single _ _ _ _ _ _).trans ?_
    have h1 : ∀ e : Fin 32, mulf (k0_pay3 (F := Ideal) d) (matmul dot_S32x512_S512x512_S32x512_1_0_0_1_n_n (some .fp32) (k0_pay3 (F := Ideal) d)
      (sitofp .f32 (extui 32 (cmpi .sle (iota .tc S512x512 32 [0] iota_S512x512_d0_w32) (iota .tc S512x512 32 [1] iota_S512x512_d1_w32)) natLt_1_32))
      (constant S32x512 .f32 0x00000000#32)) (reduces_S32x512_S512.lift (ix1 r) e)
        = if dest d r = (e.val : ℤ) then ((upTo d e.val r : ℝ) : EReal) else 0 := by
      intro e
      rw [show reduces_S32x512_S512.lift (ix1 r) e = (ix2 e r : S32x512.Idx) from Shape.idx_ext₂ rfl rfl, mulf_apply, hC, pay3_apply, pick_mul]
    refine (Finset.sum_congr rfl fun e _ => h1 e).trans ?_
    show (∑ e : Fin 32, if dest d r = (e.val : ℤ) then ((upTo d e.val r : ℝ) : EReal) else 0) = _
    by_cases h : 0 ≤ dest d r ∧ dest d r < 32
    · rw [if_pos h]
      have he : ((⟨(dest d r).toNat, by omega⟩ : Fin 32).val : ℤ) = dest d r := by show (((dest d r).toNat : ℕ) : ℤ) = _; omega
      rw [Finset.sum_eq_single (⟨(dest d r).toNat, by omega⟩ : Fin 32)]
      · rw [he, if_pos rfl, upTo_self]
      · intro e _ hne
        refine if_neg fun h' => hne (Fin.ext ?_)
        show e.val = (dest d r).toNat
        omega
      · intro h'; exact absurd (Finset.mem_univ _) h'
    · rw [if_neg h]
      refine (Finset.sum_eq_zero fun e _ => if_neg fun h' => h ?_).trans (by simp)
      have := e.isLt
      omega
  unfold k0_pay5
  rw [sitofp_apply, extui_apply]
  refine bit_value_of ?_
  rw [cmpf_apply]
  refine near_of (h := FloatOps.ofBits (F := Ideal) .f32 0x3F000000#32) ?_ ?_ half_value
  · rw [sitofp_apply, iota_single_apply, word_value]
    exact congrArg (fun z : ℤ => ((z : ℝ) : EReal)) (small_toInt (by have := i.isLt; show i.val < _; omega))
  · refine (row_apply (by decide) _ _ i r).trans ?_
    rw [addf_apply, addf_apply, mulf_apply, subf_apply, broadcast_apply, broadcast_apply]
    refine (congrArg₂ (fun a b : EReal => a * _ + _ + (b - _)) (?_ : _ = ((dest d r : ℝ) : EReal)) ((shapeCast_apply _ _ (ix2 0 r : S1x512.Idx) (ix1 r : S512.Idx) (by
      rw [Shape.rowMajor_val_one, Shape.rowMajor_val_two]; show r.val = 0 * 512 + r.val; omega)).trans hR)).trans ?_
    · rw [sitofp_apply, k0_pay2, shapeCast_self]; rfl
    · show _ * (FloatOps.ofBits .f32 0x42000000#32 : Ideal .f32) + (FloatOps.ofBits .f32 0x3F800000#32 : Ideal .f32) + (_ - (FloatOps.ofBits .f32 0x3F800000#32 : Ideal .f32)) = _
      rw [one_value, thirtyTwo_value]
      rw [← EReal.coe_sub, ← EReal.coe_mul, ← EReal.coe_add, ← EReal.coe_add]
      refine congrArg _ ?_
      unfold slotOf
      push_cast
      split <;> push_cast <;> ring

/-- The rows of a block that fits in one block of the exchange. -/
def Fits : Prop := ∀ e : Fin 32, countOf (dest d) (e.val : ℤ) ≤ 31

variable (x : FVec Ideal S512x256 .f32)

theorem muli_small {a b : ℕ} (h : a * b < 2 ^ 31) : IntOp.muli (BitVec.ofNat 32 a) (BitVec.ofNat 32 b) = BitVec.ofNat 32 (a * b) := by
  show BitVec.ofNat 32 a * BitVec.ofNat 32 b = _
  rw [BitVec.ofNat_mul]

theorem pay6_apply (i : Fin 1024) (e : Fin 32) : k0_pay6 (ix2 i e) = 1#1 ↔ i.val = e.val * 32 := by
  have hi := i.isLt
  have he := e.isLt
  unfold k0_pay6
  show IntOp.cmpi .eq (iota .tc S1024x32 32 [0] iota_S1024x32_d0_w32 (ix2 i e))
    (IntOp.muli (iota .tc S1024x32 32 [1] iota_S1024x32_d1_w32 (ix2 i e)) 32#32) = 1#1 ↔ _
  rw [eq_one_iff, iota_single_apply, iota_single_apply]
  show BitVec.ofNat 32 i.val = IntOp.muli (BitVec.ofNat 32 e.val) (BitVec.ofNat 32 32) ↔ _
  rw [muli_small (by omega), ofNat_eq_ofNat_iff (by omega) (by omega)]

theorem pay7_apply (i : Fin 1024) (l : Fin 256) :
    k0_pay7 (F := Ideal) (k0_pay1 x) (k0_pay4 (F := Ideal) d) (k0_pay5 (F := Ideal) d) k0_pay6 (ix2 i l)
      = (∑ r : Fin 512, if (i.val : ℤ) = slotOf d r then (x (ix2 r l) : EReal) else 0)
        + ∑ e : Fin 32, if i.val = e.val * 32 then ((countOf (dest d) (e.val : ℤ) : ℝ) : EReal) else 0 := by
  unfold k0_pay7
  rw [shapeCast_self, addf_apply]
  refine congrArg₂ (fun a b : EReal => a + b) ((product_apply _ rfl _ _ _ i l).trans ?_) ((product_apply _ rfl _ _ _ i l).trans ?_)
  · refine Finset.sum_congr rfl fun r _ => ?_
    rw [pay5_apply, pick_mul, k0_pay1, shapeCast_self]
  · refine Finset.sum_congr rfl fun e _ => ?_
    rw [sitofp_apply, extui_apply, bit_value_of (pay6_apply i e), pick_mul]
    rw [shapeCast_self]
    refine congrArg (fun z : EReal => if i.val = e.val * 32 then z else 0) ?_
    exact (col_apply (by decide) _ _ e l).trans (pay4_apply d e)

/-- A row of a device's send buffer: row `j` of the block for rank `c`. -/
theorem pack_apply (hf : Fits d) (c j : Fin 32) (l : Fin 256) (i : Fin 1024) (hi : i.val = c.val * 32 + j.val) :
    k0_pay7 (F := Ideal) (k0_pay1 x) (k0_pay4 (F := Ideal) d) (k0_pay5 (F := Ideal) d) k0_pay6 (ix2 i l)
      = if j.val = 0 then ((countOf (dest d) (c.val : ℤ) : ℝ) : EReal)
        else ∑ r : Fin 512, if dest d r = (c.val : ℤ) ∧ placeOf (dest d) r + 1 = j.val then (x (ix2 r l) : EReal) else 0 := by
  have hc := c.isLt
  have hj := j.isLt
  have hslot : ∀ r : Fin 512, (i.val : ℤ) = slotOf d r ↔ (dest d r = (c.val : ℤ) ∧ placeOf (dest d) r + 1 = j.val) := by
    intro r
    have hp := placeOf_lt (dest d) r
    unfold slotOf
    split
    · rename_i h
      have he : ((⟨(dest d r).toNat, by omega⟩ : Fin 32).val : ℤ) = dest d r := by show (((dest d r).toNat : ℕ) : ℤ) = _; omega
      have hq := hf ⟨(dest d r).toNat, by omega⟩
      rw [he] at hq
      omega
    · omega
  rw [pay7_apply]
  simp only [hslot]
  by_cases hj0 : j.val = 0
  · rw [if_pos hj0, Finset.sum_eq_zero (fun r _ => if_neg (by omega)), zero_add, Finset.sum_eq_single c]
    · rw [if_pos (by omega)]
    · intro e _ hne
      exact if_neg fun h => hne (Fin.ext (by omega))
    · intro h; exact absurd (Finset.mem_univ _) h
  · rw [if_neg hj0, Finset.sum_eq_zero (s := (Finset.univ : Finset (Fin 32))) (fun e _ => if_neg (by omega)), add_zero]

end Cert.Exchange
-- ==== Proof.Fits.lean ====
/-
# The precondition

What the precondition says of one device's destinations: no rank is named more than thirty-one times.
-/
module

public import proofs.«01_k».proof.Pre_fits_KernelIdeal
public import proofs.«01_k».proof.Pre_fits_ReferenceIdeal
public import proofs.«01_k».proof.Proof.Pack
public import Idealize.ShloMosaic.Lib.IndicatorCount
public import Idealize.ShloMosaic.Lib.Decide

@[expose] public section

noncomputable section

namespace Cert.Exchange

open Idealize.ShloMosaic hiding ix0 ix1 ix2 ix3 ix4 addf_apply mulf_apply subf_apply constant_apply
open Idealize.ShloMosaic.ValueIdx Idealize.ShloMosaic.WordCmp
open Finset

/-- The side conditions of the precondition over a device's arrays. -/
theorem fits_facts : Cert.Pre_fits_KernelIdeal.Facts where
  shapeCasts_S1x512_S1x1x512 := by decide
  bcast_S32_S1x32x1_1 := by decide
  bcast_S1x1x512_S1x32x512_0_1_2 := by decide
  bcast_S1x32x1_S1x32x512_0_1_2 := by decide
  natLt_1_32 := by decide
  reducesTo_S1x32x512_S1x32_d2 := by decide
  h_S_ := by decide
  bcast_S_S1x32 := by decide

/-- The side conditions of the precondition over the whole arrays. -/
theorem fits_facts_whole : Cert.Pre_fits_ReferenceIdeal.Facts where
  shapeCasts_S1x16384_S32x1x512 := by decide
  bcast_S32_S1x32x1_1 := by decide
  bcast_S32x1x512_S32x32x512_0_1_2 := by decide
  bcast_S1x32x1_S32x32x512_0_1_2 := by decide
  natLt_1_32 := by decide
  reducesTo_S32x32x512_S32x32_d2 := by decide
  h_S_ := by decide
  bcast_S_S32x32 := by decide

open Cert.Pre_fits_KernelIdeal

/-- Whether each row is for each rank. -/
def named [Facts] (d : IVec S1x512 32) : IVec S1x32x512 1 :=
  cmpi .eq (broadcastInDim S1x32x512 ![0, 1, 2] Facts.bcast_S1x1x512_S1x32x512_0_1_2 (shapeCast S1x1x512 d Facts.shapeCasts_S1x512_S1x1x512))
    (broadcastInDim S1x32x512 ![0, 1, 2] Facts.bcast_S1x32x1_S1x32x512_0_1_2 (broadcastInDim S1x32x1 ![1] Facts.bcast_S32_S1x32x1_1 (iotaInDim S32 32 0)))

theorem named_apply [Facts] (d : IVec S1x512 32) (e : Fin 32) (r : Fin 512) :
    named d (ix3 0 e r) = 1#1 ↔ dest d r = (e.val : ℤ) := by
  have h1 : named d (ix3 0 e r) = IntOp.cmpi .eq (d (ix2 0 r)) (BitVec.ofNat 32 e.val) := by
    unfold named
    refine congrArg₂ (IntOp.cmpi .eq) ?_ ?_
    · rw [broadcastInDim_apply _ _ _ (ix3 0 e r : S1x32x512.Idx) (ix3 0 0 r : S1x1x512.Idx) (fun a => by match a with | ⟨0, _⟩ => rfl | ⟨1, _⟩ => rfl | ⟨2, _⟩ => rfl)]
      exact shapeCast_apply _ _ (ix3 0 0 r : S1x1x512.Idx) (ix2 0 r : S1x512.Idx) (by
        rw [Shape.rowMajor_val_two, Shape.rowMajor_val_three]; show 0 * 512 + r.val = (0 * 1 + 0) * 512 + r.val; omega)
    · rw [broadcastInDim_apply _ _ _ (ix3 0 e r : S1x32x512.Idx) (ix3 0 e 0 : S1x32x1.Idx) (fun a => by match a with | ⟨0, _⟩ => rfl | ⟨1, _⟩ => rfl | ⟨2, _⟩ => rfl),
        broadcastInDim_apply _ _ _ (ix3 0 e 0 : S1x32x1.Idx) (ix1 e : S32.Idx) (fun a => by match a with | ⟨0, _⟩ => rfl)]
      rfl
  rw [h1, cmpi_eq_eq, ofBool_decide_eq_one_iff, ← BitVec.toInt_inj, toInt_ofNat_of_lt (by have := e.isLt; omega)]
  rfl

theorem fits_of [Facts] (x : FVec Ideal S512x256 .f32) (d : IVec S1x512 32) (h : fn (F := Ideal) x d = fun _ => 1#1) : Fits d := by
  intro e
  have h0 := congrFun h (ix2 0 e)
  have h1 : Host.reduce IntOp.addi (extui 32 (named d) Facts.natLt_1_32) (constantI S_ 32 0#32) Facts.reducesTo_S1x32x512_S1x32_d2 Facts.h_S_ (ix2 0 e)
      = BitVec.ofNat 32 (countOf (dest d) (e.val : ℤ)) := by
    refine (Host.reduce_eq_fold_single _ _ _ Facts.reducesTo_S1x32x512_S1x32_d2 (by decide) Facts.h_S_ (ix2 0 e)).trans ?_
    refine (IndicatorCount.fold_addi_setWidth_eq_card (fun r : Fin 512 => named d (ix3 0 e r)) univ).trans ?_
    unfold countOf
    exact congrArg (BitVec.ofNat 32) (congrArg Finset.card (Finset.filter_congr fun r _ => named_apply d e r))
  have h2 : IntOp.cmpi .sle (Host.reduce IntOp.addi (extui 32 (named d) Facts.natLt_1_32) (constantI S_ 32 0#32) Facts.reducesTo_S1x32x512_S1x32_d2 Facts.h_S_ (ix2 0 e)) (31#32) = 1#1 := h0
  have hn : countOf (dest d) (e.val : ℤ) ≤ 512 := by
    have := first_add_count_le_n (dest d) (e.val : ℤ)
    omega
  rw [h1, cmpi_sle_eq, ofBool_decide_eq_one_iff, toInt_ofNat_of_lt (by omega)] at h2
  have h3 : (31#32).toInt = 31 := by decide
  rw [h3] at h2
  omega

end Cert.Exchange

end
-- ==== Proof.Unpack.lean ====
/-
# What a device makes of the blocks it has received

From the counts at the heads of the blocks the kernel finds where each received row goes, and adds the rows up through
a selecting matrix.
-/
module

public import proofs.«01_k».proof.Proof.Pack

@[expose] public section

noncomputable section

namespace Cert.Exchange

open Cert.KernelIdeal Cert.KernelIdeal.Gen
open Idealize.ShloMosaic hiding ix1 ix2 addf_apply mulf_apply subf_apply
open Idealize.ShloMosaic.ValueIdx Idealize.ShloMosaic.WordCmp
open Finset

theorem coe_sum_nat {ι : Type} (s : Finset ι) (f : ι → ℕ) :
    (∑ i ∈ s, ((f i : ℝ) : EReal)) = (((∑ i ∈ s, f i : ℕ) : ℝ) : EReal) := by
  classical
  induction s using Finset.induction_on with
  | empty => simp
  | insert a s ha ih => rw [Finset.sum_insert ha, Finset.sum_insert ha, ih, ← EReal.coe_add]; push_cast; rfl

theorem mul_pick {p : Prop} [Decidable p] (y : EReal) : y * (if p then (1 : EReal) else 0) = if p then y else 0 := by
  rw [mul_comm, pick_mul]

/-- The rows received before a sender's. -/
def before (n : Fin 32 → ℕ) (s : Fin 32) : ℕ := ∑ t : Fin 32, if t < s then n t else 0

theorem shift_word : ∀ i : Fin 1024, IntOp.shrsi .vector (BitVec.ofNat 32 i.val) 5#32 = BitVec.ofNat 32 (i.val / 32) := by
  decide +kernel

theorem mask_word : ∀ i : Fin 1024, IntOp.subi (IntOp.andi (BitVec.ofNat 32 i.val) 31#32) 1#32 = BitVec.ofInt 32 (((i.val % 32 : ℕ) : ℤ) - 1) := by
  decide +kernel

theorem mask_toInt : ∀ i : Fin 1024, (BitVec.ofInt 32 (((i.val % 32 : ℕ) : ℤ) - 1)).toInt = ((i.val % 32 : ℕ) : ℤ) - 1 := by
  decide +kernel

theorem and_one_iff (a b : BitVec 1) : IntOp.andi a b = 1#1 ↔ a = 1#1 ∧ b = 1#1 := by
  revert a b; decide

variable (R : FVec Ideal S1024x256 .f32) (n : Fin 32 → ℕ)
  (hR : ∀ (s : Fin 32) (i : Fin 1024), i.val = s.val * 32 → R (ix2 i 0) = ((n s : ℝ) : EReal))

include hR in
theorem pay9_apply (s : Fin 32) : k0_pay9 (F := Ideal) R (ix2 0 s) = ((n s : ℝ) : EReal) := by
  have hs := s.isLt
  unfold k0_pay9
  refine (product_apply _ rfl _ _ _ 0 s).trans ?_
  have hcol : ∀ t : Fin 32, extractStridedSlice S32x1 ![0, 0] (matmul (F := Ideal) dot_S32x1024_S1024x256_S32x256_1_0_0_1_n_n (some .fp32)
      (sitofp .f32 (extui 32 (cmpi .eq (iota .tc S32x1024 32 [1] iota_S32x1024_d1_w32)
        (muli (iota .tc S32x1024 32 [0] iota_S32x1024_d0_w32) (broadcast S32x1024 32#32))) natLt_1_32)) R
      (constant S32x256 .f32 0x00000000#32)) slices_S32x256_o0_0_S32x1 (ix2 t 0) = ((n t : ℝ) : EReal) := by
    intro t
    have ht := t.isLt
    refine (extractStridedSlice_apply _ _ _ _ (ix2 t 0 : S32x256.Idx) (fun ax => match ax with
      | ⟨0, _⟩ => by show t.val = 0 + t.val; omega
      | ⟨1, _⟩ => rfl)).trans ?_
    refine (product_apply _ rfl _ _ _ t 0).trans ?_
    rw [Finset.sum_eq_single (⟨t.val * 32, by omega⟩ : Fin 1024)]
    · rw [sitofp_apply, extui_apply, bit_value_of (p := True) (by
        refine iff_of_true ?_ trivial
        show IntOp.cmpi .eq (iota .tc S32x1024 32 [1] iota_S32x1024_d1_w32 (ix2 t ⟨t.val * 32, _⟩))
          (IntOp.muli (iota .tc S32x1024 32 [0] iota_S32x1024_d0_w32 (ix2 t ⟨t.val * 32, _⟩)) (BitVec.ofNat 32 32)) = 1#1
        rw [eq_one_iff, iota_single_apply, iota_single_apply]
        exact (muli_small (by show t.val * 32 < _; omega)).symm), pick_mul, if_pos trivial]
      exact hR t _ rfl
    · intro i _ hne
      have hi := i.isLt
      rw [sitofp_apply, extui_apply, bit_value_of (p := False) (by
        refine iff_of_false ?_ (fun h => h)
        show ¬ IntOp.cmpi .eq (iota .tc S32x1024 32 [1] iota_S32x1024_d1_w32 (ix2 t i))
          (IntOp.muli (iota .tc S32x1024 32 [0] iota_S32x1024_d0_w32 (ix2 t i)) (BitVec.ofNat 32 32)) = 1#1
        rw [eq_one_iff, iota_single_apply, iota_single_apply]
        show ¬ BitVec.ofNat 32 i.val = IntOp.muli (BitVec.ofNat 32 t.val) (BitVec.ofNat 32 32)
        rw [muli_small (by omega), ofNat_eq_ofNat_iff (by omega) (by omega)]
        exact fun h => hne (Fin.ext h)), pick_mul, if_neg (fun h => h)]
    · intro h; exact absurd (Finset.mem_univ _) h
  have hterm : ∀ t : Fin 32, mulf (F := Ideal) (sitofp .f32 (extui 32 (cmpi .eq (iota .tc S32x32 32 [0] iota_S32x32_d0_w32) (iota .tc S32x32 32 [1] iota_S32x32_d1_w32)) natLt_1_32))
      (broadcastTo S32x32 (extractStridedSlice S32x1 ![0, 0] (matmul (F := Ideal) dot_S32x1024_S1024x256_S32x256_1_0_0_1_n_n (some .fp32)
      (sitofp .f32 (extui 32 (cmpi .eq (iota .tc S32x1024 32 [1] iota_S32x1024_d1_w32)
        (muli (iota .tc S32x1024 32 [0] iota_S32x1024_d0_w32) (broadcast S32x1024 32#32))) natLt_1_32)) R
      (constant S32x256 .f32 0x00000000#32)) slices_S32x256_o0_0_S32x1) broadcasts_S32x1_S32x32) (ix2 t s) = if t = s then ((n t : ℝ) : EReal) else 0 := by
    intro t
    have ht := t.isLt
    rw [mulf_apply, sitofp_apply, extui_apply, bit_value_of (p := t = s) (by
      show IntOp.cmpi .eq (iota .tc S32x32 32 [0] iota_S32x32_d0_w32 (ix2 t s)) (iota .tc S32x32 32 [1] iota_S32x32_d1_w32 (ix2 t s)) = 1#1 ↔ _
      rw [eq_one_iff, iota_single_apply, iota_single_apply]
      show BitVec.ofNat 32 t.val = BitVec.ofNat 32 s.val ↔ _
      rw [ofNat_eq_ofNat_iff (by omega) (by omega), Fin.ext_iff]), pick_mul]
    exact congrArg (fun z : EReal => if t = s then z else 0) ((col_apply (by decide) _ _ t s).trans (hcol t))
  refine (Finset.sum_congr rfl fun t _ => (congrArg₂ (fun a b : EReal => a * b) one_value (hterm t) : _)).trans ?_
  simp only [EReal.coe_one, one_mul]
  rw [Finset.sum_ite_eq', if_pos (Finset.mem_univ s)]

include hR in
theorem pay10_apply (s : Fin 32) : k0_pay10 (F := Ideal) R (ix2 0 s) = ((before n s : ℝ) : EReal) := by
  have hs := s.isLt
  unfold k0_pay10
  refine (product_apply _ rfl _ _ _ 0 s).trans ?_
  unfold before
  rw [← coe_sum_nat]
  refine Finset.sum_congr rfl fun t _ => ?_
  have ht := t.isLt
  rw [pay9_apply R n hR, sitofp_apply, extui_apply, bit_value_of (p := t < s) (by
    show IntOp.cmpi .slt (iota .tc S32x32 32 [0] iota_S32x32_d0_w32 (ix2 t s)) (iota .tc S32x32 32 [1] iota_S32x32_d1_w32 (ix2 t s)) = 1#1 ↔ _
    rw [iota_single_apply, iota_single_apply]
    show IntOp.cmpi .slt (BitVec.ofNat 32 t.val) (BitVec.ofNat 32 s.val) = 1#1 ↔ _
    rw [cmpi_slt_eq, ofBool_decide_eq_one_iff, small_toInt (by omega), small_toInt (by omega), Fin.lt_def]
    omega), mul_pick]
  split <;> simp

include hR in
/-- A row of a device's output: the received rows whose place it is. -/
theorem unpack_apply (k : Fin 512) (l : Fin 256) (hdiv : ∀ i : Fin 1024, i.val / 32 < 32) :
    k0_pay13 (F := Ideal) R (k0_pay9 (F := Ideal) R) (k0_pay10 (F := Ideal) R) k0_pay11 k0_pay12 1#32 (ix2 k l)
      = ∑ i : Fin 1024, if 1 ≤ i.val % 32 ∧ i.val % 32 ≤ n ⟨i.val / 32, hdiv i⟩ ∧ k.val + 1 = before n ⟨i.val / 32, hdiv i⟩ + i.val % 32
          then (R (ix2 i l) : EReal) else 0 := by
  unfold k0_pay13
  refine (product_apply _ rfl _ _ _ k l).trans ?_
  refine Finset.sum_congr rfl fun i _ => ?_
  have hi := i.isLt
  have hk := k.isLt
  have hsel : ∀ s : Fin 32, sitofp (F := Ideal) .f32 (extui 32 (cmpi .eq (iota .tc S32x1024 32 [0] iota_S32x1024_d0_w32)
      (broadcastTo S32x1024 k0_pay11 broadcasts_S1x1024_S32x1024)) natLt_1_32) (ix2 s i) = if s = ⟨i.val / 32, hdiv i⟩ then (1 : EReal) else 0 := by
    intro s
    have hs := s.isLt
    rw [sitofp_apply, extui_apply]
    refine bit_value_of ?_
    show IntOp.cmpi .eq (iota .tc S32x1024 32 [0] iota_S32x1024_d0_w32 (ix2 s i)) (broadcastTo S32x1024 k0_pay11 broadcasts_S1x1024_S32x1024 (ix2 s i)) = 1#1 ↔ _
    rw [eq_one_iff, iota_single_apply]
    rw [show broadcastTo S32x1024 k0_pay11 broadcasts_S1x1024_S32x1024 (ix2 s i) = BitVec.ofNat 32 (i.val / 32) by
      refine (row_apply (by decide) _ _ s i).trans ?_
      unfold k0_pay11
      show IntOp.shrsi .vector (iota .tc S1x1024 32 [1] iota_S1x1024_d1_w32 (ix2 0 i)) 5#32 = _
      rw [iota_single_apply]
      exact shift_word i]
    show BitVec.ofNat 32 s.val = _ ↔ _
    rw [ofNat_eq_ofNat_iff (by omega) (by omega), Fin.ext_iff]
  have hpick : ∀ (v : FVec Ideal S1x32 .f32), matmul (F := Ideal) dot_S1x32_S32x1024_S1x1024_1_0_0_1_n_n (some .fp32) v
      (sitofp .f32 (extui 32 (cmpi .eq (iota .tc S32x1024 32 [0] iota_S32x1024_d0_w32)
      (broadcastTo S32x1024 k0_pay11 broadcasts_S1x1024_S32x1024)) natLt_1_32)) (constant S1x1024 .f32 0x00000000#32) (ix2 0 i)
        = v (ix2 0 ⟨i.val / 32, hdiv i⟩) := by
    intro v
    refine (product_apply _ rfl _ _ _ 0 i).trans ?_
    refine (Finset.sum_congr rfl fun s _ => (congrArg (fun z : EReal => v (ix2 0 s) * z) (hsel s)).trans (mul_pick _)).trans ?_
    rw [Finset.sum_ite_eq', if_pos (Finset.mem_univ _)]
  have hj : sitofp (F := Ideal) .f32 (subi k0_pay12 (broadcast S1x1024 1#32)) (ix2 0 i) = (((((i.val % 32 : ℕ) : ℤ) - 1 : ℤ) : ℝ) : EReal) := by
    rw [sitofp_apply]
    unfold k0_pay12
    show FloatOps.sitofp (F := Ideal) .f32 (IntOp.subi (IntOp.andi (iota .tc S1x1024 32 [1] iota_S1x1024_d1_w32 (ix2 0 i)) 31#32) 1#32) = _
    rw [iota_single_apply]
    refine (congrArg (FloatOps.sitofp (F := Ideal) .f32) (mask_word i)).trans ?_
    rw [word_value, mask_toInt]
  rw [sitofp_apply, extui_apply, bit_value_of (p := 1 ≤ i.val % 32 ∧ i.val % 32 ≤ n ⟨i.val / 32, hdiv i⟩ ∧ k.val + 1 = before n ⟨i.val / 32, hdiv i⟩ + i.val % 32) ?_, pick_mul]
  refine (and_one_iff _ _).trans ?_
  have hn : IntOp.andi
      (Ideal.cmp .oge (sitofp (F := Ideal) .f32 (subi k0_pay12 (broadcast S1x1024 1#32)) (ix2 0 i)) (FloatOps.ofBits (F := Ideal) .f32 0x00000000#32))
      (Ideal.cmp .olt (sitofp (F := Ideal) .f32 (subi k0_pay12 (broadcast S1x1024 1#32)) (ix2 0 i))
        (matmul (F := Ideal) dot_S1x32_S32x1024_S1x1024_1_0_0_1_n_n (some .fp32) (k0_pay9 (F := Ideal) R)
          (sitofp .f32 (extui 32 (cmpi .eq (iota .tc S32x1024 32 [0] iota_S32x1024_d0_w32)
          (broadcastTo S32x1024 k0_pay11 broadcasts_S1x1024_S32x1024)) natLt_1_32)) (constant S1x1024 .f32 0x00000000#32) (ix2 0 i))) = 1#1
      ↔ 1 ≤ i.val % 32 ∧ i.val % 32 ≤ n ⟨i.val / 32, hdiv i⟩ := by
    rw [and_one_iff, hj, hpick, pay9_apply R n hR, zero_value, Ideal.cmp_oge, Ideal.cmp_olt, ofBool_decide_eq_one_iff, ofBool_decide_eq_one_iff,
      EReal.coe_le_coe_iff, EReal.coe_lt_coe_iff]
    refine and_congr ?_ ?_
    · rw [show (0 : ℝ) = ((0 : ℤ) : ℝ) by norm_num, Int.cast_le]; omega
    · rw [show ((n ⟨i.val / 32, hdiv i⟩ : ℕ) : ℝ) = (((n ⟨i.val / 32, hdiv i⟩ : ℕ) : ℤ) : ℝ) by norm_num, Int.cast_lt]; omega
  refine (and_congr (near_of (h := FloatOps.ofBits (F := Ideal) .f32 0x3F000000#32) (a := (k.val : ℤ))
    (b := (before n ⟨i.val / 32, hdiv i⟩ : ℤ) + (((i.val % 32 : ℕ) : ℤ) - 1)) ?_ ?_ half_value)
    ((iff_of_eq (congrArg (fun z : BitVec 1 => z = 1#1) (row_apply (by decide) _ _ k i))).trans hn)).trans ?_
  · refine (col_apply (by decide) _ _ k i).trans ?_
    rw [sitofp_apply, iota_single_apply, word_value]
    exact congrArg (fun z : ℤ => ((z : ℝ) : EReal)) (small_toInt (by show k.val < _; omega))
  · refine (row_apply (by decide) _ _ k i).trans ?_
    rw [addf_apply]
    refine (congrArg₂ (fun a b : EReal => a + b) ((hpick _).trans (pay10_apply R n hR _)) hj).trans ?_
    rw [← EReal.coe_add]
    push_cast
    rfl
  · omega

end Cert.Exchange
-- ==== Proof.Landed.lean ====
/-
# A device's result as a sum over every device's rows

Each received block is a device's packed block, so a row of the result is the sum over all rows of all devices that
keeps the row whose destination is the device and whose place among those rows is the result's row.
-/
module

public import proofs.«01_k».proof.Proof.Run
public import proofs.«01_k».proof.Proof.Unpack

@[expose] public section

noncomputable section

namespace Cert.Exchange

open Cert.KernelIdeal Cert.KernelIdeal.Gen
open Idealize.ShloMosaic hiding ix1 ix2 addf_apply mulf_apply subf_apply
open Idealize.ShloMosaic.ValueIdx Idealize.ShloMosaic.WordCmp
open Idealize.ShloMosaic.TcCoe
open Finset

/-- The rows of the landing buffer, block by block. -/
def blocks : Fin 32 × Fin 32 ≃ Fin 1024 := finProdFinEquiv
theorem blocks_val (s j : Fin 32) : (blocks (s, j)).val = s.val * 32 + j.val := by
  show j.val + 32 * s.val = _; omega

/-- One received block's share of a row of the result. -/
theorem block_share (D : Fin 512 → ℤ) (c : ℤ) (hn : countOf D c ≤ 31) (x : Fin 512 → EReal) (b k : ℕ) :
    (∑ j : Fin 32, if 1 ≤ j.val ∧ j.val ≤ countOf D c ∧ k + 1 = b + j.val
        then (if j.val = 0 then ((countOf D c : ℝ) : EReal) else ∑ r : Fin 512, if D r = c ∧ placeOf D r + 1 = j.val then x r else 0) else 0)
      = ∑ r : Fin 512, if D r = c ∧ b + placeOf D r = k then x r else 0 := by
  have h1 : ∀ j : Fin 32, (if 1 ≤ j.val ∧ j.val ≤ countOf D c ∧ k + 1 = b + j.val
        then (if j.val = 0 then ((countOf D c : ℝ) : EReal) else ∑ r : Fin 512, if D r = c ∧ placeOf D r + 1 = j.val then x r else 0) else 0)
      = ∑ r : Fin 512, if (1 ≤ j.val ∧ j.val ≤ countOf D c ∧ k + 1 = b + j.val) ∧ D r = c ∧ placeOf D r + 1 = j.val then x r else 0 := by
    intro j
    by_cases h : 1 ≤ j.val ∧ j.val ≤ countOf D c ∧ k + 1 = b + j.val
    · rw [if_pos h, if_neg (by omega)]
      exact Finset.sum_congr rfl fun r _ => by simp only [h, true_and, and_true, and_self]
    · rw [if_neg h]
      exact (Finset.sum_eq_zero fun r _ => if_neg fun h' => h h'.1).symm
  rw [Finset.sum_congr rfl fun j _ => h1 j, Finset.sum_comm]
  refine Finset.sum_congr rfl fun r _ => ?_
  have hp := placeOf_lt D r
  by_cases hd : D r = c
  · rw [hd] at hp
    rw [Finset.sum_eq_single (⟨placeOf D r + 1, by omega⟩ : Fin 32)]
    · exact if_congr (by show (1 ≤ placeOf D r + 1 ∧ placeOf D r + 1 ≤ _ ∧ k + 1 = b + (placeOf D r + 1)) ∧ D r = c ∧ placeOf D r + 1 = placeOf D r + 1 ↔ _; omega) rfl rfl
    · intro j _ hne
      exact if_neg fun h => hne (Fin.ext h.2.2.symm)
    · intro h; exact absurd (Finset.mem_univ _) h
  · rw [if_neg fun h => hd h.1]
    exact Finset.sum_eq_zero fun j _ => if_neg fun h => hd h.2.1

variable (m : (ℓ : Loc nD τ sig) → Buf (Elt Ideal) ℓ)

/-- The destinations and the rows of a device, as staged. -/
def dstOf (s : Dev nD) : IVec S1x512 32 := dstg m s
def rowsOf (s : Dev nD) : FVec Ideal S512x256 .f32 := xstg m s

theorem landed_apply (c s : Dev nD) (hf : Fits (dstOf m s)) (j : Fin 32) (i : Fin 1024) (hi : i.val = s.val * 32 + j.val) (l : Fin 256) :
    (landedBuf m c : FVec Ideal S1024x256 .f32) (ix2 i l)
      = if j.val = 0 then ((countOf (dest (dstOf m s)) (c.val : ℤ) : ℝ) : EReal)
        else ∑ r : Fin 512, if dest (dstOf m s) r = (c.val : ℤ) ∧ placeOf (dest (dstOf m s)) r + 1 = j.val then (rowsOf m s (ix2 r l) : EReal) else 0 := by
  have hc := dlt c
  have hs := dlt s
  have hb : blockOf (ix2 i l : S1024x256.Idx) = s := by
    refine Fin.ext ?_
    show i.val / 32 = s.val
    omega
  unfold landedBuf
  rw [hb]
  have hr : srcRow c (ix2 i l : S1024x256.Idx) = (ix2 (⟨c.val * 32 + j.val, by omega⟩ : Fin 1024) l : S1024x256.Idx) :=
    Shape.idx_ext₂ (by show 32 * c.val + i.val % 32 = c.val * 32 + j.val; omega) rfl
  rw [hr]
  exact pack_apply (dstOf m s) (rowsOf m s) hf ⟨c.val, hc⟩ j l _ rfl

/-- A row of a device's result. -/
theorem outAt_apply (hf : ∀ s, Fits (dstOf m s)) (c : Dev nD) (k : Fin 512) (l : Fin 256) :
    (outAt m c : FVec Ideal S512x256 .f32) (ix2 k l)
      = ∑ s : Fin 32, ∑ r : Fin 512, if dest (dstOf m s) r = (c.val : ℤ)
          ∧ (∑ t : Fin 32, if t < s then countOf (dest (dstOf m t)) (c.val : ℤ) else 0) + placeOf (dest (dstOf m s)) r = k.val
          then (rowsOf m s (ix2 r l) : EReal) else 0 := by
  have hc := dlt c
  have hdiv : ∀ i : Fin 1024, i.val / 32 < 32 := fun i => by have := i.isLt; omega
  have hR : ∀ (s : Fin 32) (i : Fin 1024), i.val = s.val * 32 →
      (landedBuf m c : FVec Ideal S1024x256 .f32) (ix2 i 0) = ((countOf (dest (dstOf m s)) (c.val : ℤ) : ℝ) : EReal) :=
    fun s i hi => (landed_apply m c s (hf s) 0 i (by show i.val = s.val * 32 + 0; omega) 0).trans (if_pos rfl)
  refine (unpack_apply (landedBuf m c) (fun s => countOf (dest (dstOf m s)) (c.val : ℤ)) hR k l hdiv).trans ?_
  rw [← Equiv.sum_comp blocks, Fintype.sum_prod_type]
  refine Finset.sum_congr rfl fun s _ => ?_
  have hs := s.isLt
  refine Eq.trans (Finset.sum_congr rfl fun j _ => ?_) (block_share (dest (dstOf m s)) (c.val : ℤ) (hf s ⟨c.val, hc⟩) (fun r => rowsOf m s (ix2 r l)) _ k.val)
  have hj := j.isLt
  have hv := blocks_val s j
  rw [landed_apply m c s (hf s) j _ hv l]
  have h1 : (blocks (s, j)).val % 32 = j.val := by omega
  have h2 : (⟨(blocks (s, j)).val / 32, hdiv _⟩ : Fin 32) = s := Fin.ext (by show (blocks (s, j)).val / 32 = s.val; omega)
  rw [h1, h2]
  rfl

end Cert.Exchange
-- ==== Proof.RefValue.lean ====
/-
# The value of the reference

The reference's result at an index: row `k` of rank `c`'s block is the `k`-th row for `c` in the order of their
destinations, and zero where `c` receives no more rows than `k`.
-/
module

public import proofs.«01_k».proof.Proof.Gen.ReferenceIdeal.Run
public import proofs.«01_k».proof.Proof.Order
public import proofs.«01_k».proof.Proof.Vals
public import Idealize.ShloMosaic.Lib.IndicatorCount
public import Idealize.ShloMosaic.Lib.SortFacts
public import Idealize.ShloMosaic.Lib.Routing.Shapes

@[expose] public section

noncomputable section

namespace Cert.Exchange.Plain

open Cert.ReferenceIdeal Cert.ReferenceIdeal.Gen
open Idealize.ShloMosaic hiding ix0 ix1 ix2 ix3 ix4 addf_apply mulf_apply subf_apply constant_apply
open Idealize.ShloMosaic.ValueIdx Idealize.ShloMosaic.WordCmp
open Finset

variable (x : FVec Ideal S16384x256 .f32) (d : IVec S1x16384 32)

/-- The destinations of all rows, as whole numbers. -/
def want (g : Fin 16384) : ℤ := (d (ix2 0 g)).toInt

/-- The destinations as one list. -/
def flat : IVec S16384 32 := shapeCast _ d shapeCasts_S1x16384_S16384

theorem flat_apply (g : Fin 16384) : flat d (ix1 g) = d (ix2 0 g) := by
  unfold flat
  exact shapeCast_apply _ _ (ix1 g : S16384.Idx) (ix2 0 g : S1x16384.Idx) (by
    rw [Shape.rowMajor_val_one, Shape.rowMajor_val_two]; show 0 * 16384 + g.val = g.val; omega)

/-- How each row's destination compares with each rank. -/
def compared (p : CmpIPredicate) : IVec S32x16384 1 :=
  cmpi p (broadcastInDim S32x16384 ![0, 1] bcast_S1x16384_S32x16384_0_1 (broadcastInDim S1x16384 ![1] bcast_S16384_S1x16384_1 (flat d)))
    (broadcastInDim S32x16384 ![0, 1] bcast_S32x1_S32x16384_0_1 (broadcastInDim S32x1 ![0] bcast_S32_S32x1_0 (iotaInDim S32 32 0)))

theorem compared_apply (p : CmpIPredicate) (c : Fin 32) (g : Fin 16384) :
    compared d p (ix2 c g) = IntOp.cmpi p (d (ix2 0 g)) (BitVec.ofNat 32 c.val) := by
  unfold compared
  refine congrArg₂ (IntOp.cmpi p) ?_ ?_
  · rw [broadcastInDim_apply _ _ _ (ix2 c g : S32x16384.Idx) (ix2 0 g : S1x16384.Idx) (fun a => by match a with | ⟨0, _⟩ => rfl | ⟨1, _⟩ => rfl),
      broadcastInDim_apply _ _ _ (ix2 0 g : S1x16384.Idx) (ix1 g : S16384.Idx) (fun a => by match a with | ⟨0, _⟩ => rfl), flat_apply]
  · rw [broadcastInDim_apply _ _ _ (ix2 c g : S32x16384.Idx) (ix2 c 0 : S32x1.Idx) (fun a => by match a with | ⟨0, _⟩ => rfl | ⟨1, _⟩ => rfl),
      broadcastInDim_apply _ _ _ (ix2 c 0 : S32x1.Idx) (ix1 c : S32.Idx) (fun a => by match a with | ⟨0, _⟩ => rfl)]
    rfl

/-- The number of rows that compare so with each rank. -/
def tally (p : CmpIPredicate) : IVec S32 32 :=
  Host.reduce IntOp.addi (extui 32 (compared d p) natLt_1_32) (constantI S_ 32 0#32) reducesTo_S32x16384_S32_d1 h_S_

theorem tally_apply (p : CmpIPredicate) (c : Fin 32) :
    tally d p (ix1 c) = BitVec.ofNat 32 (univ.filter fun g : Fin 16384 => IntOp.cmpi p (d (ix2 0 g)) (BitVec.ofNat 32 c.val) = 1#1).card := by
  unfold tally
  refine (Host.reduce_eq_fold_single _ _ _ reducesTo_S32x16384_S32_d1 (by decide) h_S_ (ix1 c)).trans ?_
  refine (IndicatorCount.fold_addi_setWidth_eq_card (fun g : Fin 16384 => compared d p (ix2 c g)) univ).trans ?_
  simp only [compared_apply]

theorem count_apply (c : Fin 32) : tally d .eq (ix1 c) = BitVec.ofNat 32 (countOf (want d) (c.val : ℤ)) := by
  rw [tally_apply]
  unfold countOf
  refine congrArg (BitVec.ofNat 32) (congrArg Finset.card (Finset.filter_congr fun g _ => ?_))
  rw [cmpi_eq_eq, ofBool_decide_eq_one_iff, ← BitVec.toInt_inj, toInt_ofNat_of_lt (by have := c.isLt; omega)]
  rfl

theorem first_apply (c : Fin 32) : tally d .slt (ix1 c) = BitVec.ofNat 32 (firstOf (want d) (c.val : ℤ)) := by
  rw [tally_apply]
  unfold firstOf
  refine congrArg (BitVec.ofNat 32) (congrArg Finset.card (Finset.filter_congr fun g _ => ?_))
  rw [cmpi_slt_eq, ofBool_decide_eq_one_iff, toInt_ofNat_of_lt (by have := c.isLt; omega)]
  rfl

/-- The rows in the order of their destinations. -/
def order : IVec S16384 32 := (Host.sort2 S16384 0 comparator_i32_i32_d0 (flat d) (iotaInDim S16384 32 0)).2

theorem position_at (p q : Fin 16384) : iotaInDim S16384 32 0 ((ix1 p : S16384.Idx).along (0 : Fin 1) q) = BitVec.ofNat 32 q.val := by
  rw [Shape.Idx.along_rank1, Routing.ofFin_eq_ix1]
  unfold iotaInDim
  rfl

theorem order_apply (p : Fin 16384) : order d (ix1 p) = BitVec.ofNat 32 (sortedFrom (less (want d)) p).val := by
  have h : (fun k k' : Fin 16384 => comparator_i32_i32_d0 (flat d ((ix1 p : S16384.Idx).along (0 : Fin 1) k), iotaInDim S16384 32 0 ((ix1 p : S16384.Idx).along (0 : Fin 1) k))
      (flat d ((ix1 p : S16384.Idx).along (0 : Fin 1) k'), iotaInDim S16384 32 0 ((ix1 p : S16384.Idx).along (0 : Fin 1) k')) == 1#1) = less (want d) := by
    funext k k'
    rw [Shape.Idx.along_rank1, Shape.Idx.along_rank1, Routing.ofFin_eq_ix1, Routing.ofFin_eq_ix1, Bool.eq_iff_iff]
    show (IntOp.cmpi .slt (flat d (ix1 k)) (flat d (ix1 k')) == 1#1) = true ↔ _
    rw [flat_apply, flat_apply, beq_iff_eq, cmpi_slt_eq, ofBool_decide_eq_one_iff]
    unfold less want
    rw [decide_eq_true_iff]
  unfold order
  refine (congrArg (fun f : Fin 16384 → Fin 16384 → Bool => iotaInDim S16384 32 0 ((ix1 p : S16384.Idx).along (0 : Fin 1) (sortedFrom f p))) h).trans ?_
  exact position_at p (sortedFrom (less (want d)) p)

theorem select_at {S : Shape} {α : Type} (b : IVec S 1) (u v : S.Idx → α) (i : S.Idx) :
    select b u v i = if b i = 1#1 then u i else v i := rfl

/-- An index that is not negative is kept. -/
theorem keep_nonneg {S : Shape} (h : S_.BroadcastsInDim S (![] : Fin 0 → Fin S.rank)) (v : IVec S 32) (i : S.Idx) {n : ℕ} (hn : n < 2 ^ 31)
    (hv : v i = BitVec.ofNat 32 n) :
    select (cmpi .slt v (broadcastInDim S ![] h (constantI S_ 32 0#32))) (addi v (broadcastInDim S ![] h (constantI S_ 32 16384#32))) v i
      = BitVec.ofNat 32 n := by
  show (if IntOp.cmpi .slt (v i) (0#32) = 1#1 then _ else v i) = _
  rw [if_neg, hv]
  rw [hv, cmpi_slt_eq, ofBool_decide_eq_one_iff, toInt_ofNat_of_lt hn]
  show ¬ ((n : ℤ) < 0)
  omega

/-- Rows taken by a list of row numbers. -/
theorem take_apply (v : IVec S16384x1 32) (p : Fin 16384) (l : Fin 256) (q : Fin 16384) (hq : v (ix2 p 0) = BitVec.ofNat 32 q.val) :
    Host.gather gather_S16384x256_S16384x1_S16384x256_1_0_n_n_0_1_1256 x v (ix2 p l) = x (ix2 q l) := by
  unfold Host.gather
  congr 1
  funext a
  refine Fin.ext ?_
  show GatherDims.start gather_S16384x256_S16384x1_S16384x256_1_0_n_n_0_1_1256 (ix2 p l) v a + GatherDims.batchCoord gather_S16384x256_S16384x1_S16384x256_1_0_n_n_0_1_1256 (ix2 p l) a
    + GatherDims.offCoord gather_S16384x256_S16384x1_S16384x256_1_0_n_n_0_1_1256 (ix2 p l) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16384x256_S16384x1_S16384x256_1_0_n_n_0_1_1256.startIndexMap from List.mem_singleton.mpr rfl)]
    have hsi : GatherDims.siIdx gather_S16384x256_S16384x1_S16384x256_1_0_n_n_0_1_1256 (ix2 p l) ⟨List.idxOf (0 : Fin 2) gather_S16384x256_S16384x1_S16384x256_1_0_n_n_0_1_1256.startIndexMap,
        List.idxOf_lt_length_iff.2 (List.mem_singleton.mpr rfl)⟩ = (ix2 p 0 : S16384x1.Idx) := by
      funext b; refine Fin.ext ?_
      match b with
      | ⟨0, _⟩ => rfl
      | ⟨1, _⟩ => rfl
    rw [hsi, hq, toInt_ofNat_of_lt (by have := q.isLt; omega)]
    show min ((q.val : ℤ).toNat) (16384 - 1) = q.val
    have := q.isLt
    omega
  · unfold GatherDims.start
    rw [dif_neg (show (1 : Fin 2) ∉ gather_S16384x256_S16384x1_S16384x256_1_0_n_n_0_1_1256.startIndexMap from by decide)]
    unfold GatherDims.offCoord
    rw [dif_pos ((GatherDims.mem_sKept _ _).mpr ⟨by decide, by decide⟩)]
    show 0 + 0 + l.val = l.val
    omega

/-- Rows taken by a table of row numbers. -/
theorem take_table_apply (v : IVec S32x512x1 32) (c : Fin 32) (k : Fin 512) (l : Fin 256) (q : Fin 16384) (hq : v (ix3 c k 0) = BitVec.ofNat 32 q.val) :
    Host.gather gather_S16384x256_S32x512x1_S32x512x256_2_0_n_n_0_2_1256 x v (ix3 c k l) = x (ix2 q l) := by
  unfold Host.gather
  congr 1
  funext a
  refine Fin.ext ?_
  show GatherDims.start gather_S16384x256_S32x512x1_S32x512x256_2_0_n_n_0_2_1256 (ix3 c k l) v a + GatherDims.batchCoord gather_S16384x256_S32x512x1_S32x512x256_2_0_n_n_0_2_1256 (ix3 c k l) a
    + GatherDims.offCoord gather_S16384x256_S32x512x1_S32x512x256_2_0_n_n_0_2_1256 (ix3 c k l) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16384x256_S32x512x1_S32x512x256_2_0_n_n_0_2_1256.startIndexMap from List.mem_singleton.mpr rfl)]
    have hsi : GatherDims.siIdx gather_S16384x256_S32x512x1_S32x512x256_2_0_n_n_0_2_1256 (ix3 c k l) ⟨List.idxOf (0 : Fin 2) gather_S16384x256_S32x512x1_S32x512x256_2_0_n_n_0_2_1256.startIndexMap,
        List.idxOf_lt_length_iff.2 (List.mem_singleton.mpr rfl)⟩ = (ix3 c k 0 : S32x512x1.Idx) := by
      funext b; refine Fin.ext ?_
      match b with
      | ⟨0, _⟩ => rfl
      | ⟨1, _⟩ => rfl
      | ⟨2, _⟩ => rfl
    rw [hsi, hq, toInt_ofNat_of_lt (by have := q.isLt; omega)]
    show min ((q.val : ℤ).toNat) (16384 - 1) = q.val
    have := q.isLt
    omega
  · unfold GatherDims.start
    rw [dif_neg (show (1 : Fin 2) ∉ gather_S16384x256_S32x512x1_S32x512x256_2_0_n_n_0_2_1256.startIndexMap from by decide)]
    unfold GatherDims.offCoord
    rw [dif_pos ((GatherDims.mem_sKept _ _).mpr ⟨by decide, by decide⟩)]
    show 0 + 0 + l.val = l.val
    omega

/-- The rows in the order of their destinations. -/
def ordered : FVec Ideal S16384x256 .f32 :=
  Host.gather gather_S16384x256_S16384x1_S16384x256_1_0_n_n_0_1_1256 x (broadcastInDim S16384x1 ![0] bcast_S16384_S16384x1_0
    (select (cmpi .slt (order d) (broadcastInDim S16384 ![] bcast_S_S16384 (constantI S_ 32 0#32)))
      (addi (order d) (broadcastInDim S16384 ![] bcast_S_S16384 (constantI S_ 32 16384#32))) (order d)))

theorem ordered_apply (p : Fin 16384) (l : Fin 256) : ordered x d (ix2 p l) = x (ix2 (sortedFrom (less (want d)) p) l) := by
  unfold ordered
  refine take_apply x _ p l _ ?_
  rw [broadcastInDim_apply _ _ _ (ix2 p 0 : S16384x1.Idx) (ix1 p : S16384.Idx) (fun a => by match a with | ⟨0, _⟩ => rfl)]
  exact keep_nonneg bcast_S_S16384 (order d) (ix1 p) (by have := (sortedFrom (less (want d)) p).isLt; omega) (order_apply d p)

/-- Each rank's slots, as places in the order of all rows. -/
def slots : IVec S32x512 32 :=
  minsi (broadcastInDim S32x512 ![] bcast_S_S32x512 (id (constantI S_ 32 16383#32)))
    (maxsi (broadcastInDim S32x512 ![] bcast_S_S32x512 (id (constantI S_ 32 0#32)))
      (addi (broadcastInDim S32x512 ![0, 1] bcast_S32x1_S32x512_0_1 (broadcastInDim S32x1 ![0] bcast_S32_S32x1_0 (tally d .slt)))
        (broadcastInDim S32x512 ![0, 1] bcast_S1x512_S32x512_0_1 (broadcastInDim S1x512 ![1] bcast_S512_S1x512_1 (iotaInDim S512 32 0)))))

theorem column_apply (v : IVec S32 32) (c : Fin 32) (k : Fin 512) :
    broadcastInDim S32x512 ![0, 1] bcast_S32x1_S32x512_0_1 (broadcastInDim S32x1 ![0] bcast_S32_S32x1_0 v) (ix2 c k) = v (ix1 c) := by
  rw [broadcastInDim_apply _ _ _ (ix2 c k : S32x512.Idx) (ix2 c 0 : S32x1.Idx) (fun a => by match a with | ⟨0, _⟩ => rfl | ⟨1, _⟩ => rfl),
    broadcastInDim_apply _ _ _ (ix2 c 0 : S32x1.Idx) (ix1 c : S32.Idx) (fun a => by match a with | ⟨0, _⟩ => rfl)]

theorem lanes_apply (c : Fin 32) (k : Fin 512) :
    broadcastInDim S32x512 ![0, 1] bcast_S1x512_S32x512_0_1 (broadcastInDim S1x512 ![1] bcast_S512_S1x512_1 (iotaInDim S512 32 0)) (ix2 c k) = BitVec.ofNat 32 k.val := by
  rw [broadcastInDim_apply _ _ _ (ix2 c k : S32x512.Idx) (ix2 0 k : S1x512.Idx) (fun a => by match a with | ⟨0, _⟩ => rfl | ⟨1, _⟩ => rfl),
    broadcastInDim_apply _ _ _ (ix2 0 k : S1x512.Idx) (ix1 k : S512.Idx) (fun a => by match a with | ⟨0, _⟩ => rfl)]
  rfl

theorem slots_apply (c : Fin 32) (k : Fin 512) (h : firstOf (want d) (c.val : ℤ) + k.val ≤ 16383) :
    slots d (ix2 c k) = BitVec.ofNat 32 (firstOf (want d) (c.val : ℤ) + k.val) := by
  unfold slots
  show IntOp.minsi (16383#32) (IntOp.maxsi (0#32) (IntOp.addi
    (broadcastInDim S32x512 ![0, 1] bcast_S32x1_S32x512_0_1 (broadcastInDim S32x1 ![0] bcast_S32_S32x1_0 (tally d .slt)) (ix2 c k))
    (broadcastInDim S32x512 ![0, 1] bcast_S1x512_S32x512_0_1 (broadcastInDim S1x512 ![1] bcast_S512_S1x512_1 (iotaInDim S512 32 0)) (ix2 c k)))) = _
  rw [column_apply, lanes_apply, first_apply]
  show IntOp.minsi (16383#32) (IntOp.maxsi (0#32) (BitVec.ofNat 32 (firstOf (want d) (c.val : ℤ)) + BitVec.ofNat 32 k.val)) = _
  rw [← BitVec.ofNat_add]
  generalize firstOf (want d) (c.val : ℤ) + k.val = n at h ⊢
  have hn : (BitVec.ofNat 32 n).toInt = (n : ℤ) := toInt_ofNat_of_lt (by omega)
  have h1 : IntOp.maxsi (0#32) (BitVec.ofNat 32 n) = BitVec.ofNat 32 n := by
    unfold IntOp.maxsi
    split
    · rename_i h'
      rw [BitVec.slt_iff_toInt_lt, hn] at h'
      have : (0#32).toInt = 0 := by decide
      omega
    · rfl
  rw [h1]
  unfold IntOp.minsi
  have h3 : (16383#32).toInt = 16383 := by decide
  split
  · rename_i h'
    rw [BitVec.slt_iff_toInt_lt, hn, h3] at h'
    omega
  · rfl

/-- The whole result. -/
def result : FVec Ideal S16384x256 .f32 :=
  shapeCast _ (select (broadcastInDim S32x512x256 ![0, 1, 2] bcast_S32x512x1_S32x512x256_0_1_2 (broadcastInDim S32x512x1 ![0, 1] bcast_S32x512_S32x512x1_0_1
      (cmpi .slt (broadcastInDim S32x512 ![0, 1] bcast_S1x512_S32x512_0_1 (broadcastInDim S1x512 ![1] bcast_S512_S1x512_1 (iotaInDim S512 32 0)))
        (broadcastInDim S32x512 ![0, 1] bcast_S32x1_S32x512_0_1 (broadcastInDim S32x1 ![0] bcast_S32_S32x1_0 (tally d .eq))))))
    (Host.gather gather_S16384x256_S32x512x1_S32x512x256_2_0_n_n_0_2_1256 (ordered x d) (broadcastInDim S32x512x1 ![0, 1] bcast_S32x512_S32x512x1_0_1
      (select (cmpi .slt (slots d) (broadcastInDim S32x512 ![] bcast_S_S32x512 (constantI S_ 32 0#32)))
        (addi (slots d) (broadcastInDim S32x512 ![] bcast_S_S32x512 (constantI S_ 32 16384#32))) (slots d))))
    (broadcastInDim S32x512x256 ![] bcast_S_S32x512x256 (id (constant S_ .f32 0x00000000#32)))) shapeCasts_S32x512x256_S16384x256

theorem result_apply (c : Fin 32) (k : Fin 512) (l : Fin 256) (g : Fin 16384) (hg : g.val = c.val * 512 + k.val) (p : Fin 16384)
    (hp : k.val < countOf (want d) (c.val : ℤ) → p.val = firstOf (want d) (c.val : ℤ) + k.val) :
    result x d (ix2 g l) = if k.val < countOf (want d) (c.val : ℤ) then x (ix2 (sortedFrom (less (want d)) p) l) else (0 : EReal) := by
  have hle := first_add_count_le_n (want d) (c.val : ℤ)
  unfold result
  rw [shapeCast_apply _ _ (ix2 g l : S16384x256.Idx) (ix3 c k l : S32x512x256.Idx) (by
    rw [Shape.rowMajor_val_two, Shape.rowMajor_val_three]
    show (c.val * 512 + k.val) * 256 + l.val = g.val * 256 + l.val
    rw [hg])]
  rw [select_at, broadcastInDim_apply _ _ _ (ix3 c k l : S32x512x256.Idx) (ix3 c k 0 : S32x512x1.Idx) (fun a => by match a with | ⟨0, _⟩ => rfl | ⟨1, _⟩ => rfl | ⟨2, _⟩ => rfl),
    broadcastInDim_apply _ _ _ (ix3 c k 0 : S32x512x1.Idx) (ix2 c k : S32x512.Idx) (fun a => by match a with | ⟨0, _⟩ => rfl | ⟨1, _⟩ => rfl)]
  have hlt : (cmpi .slt (broadcastInDim S32x512 ![0, 1] bcast_S1x512_S32x512_0_1 (broadcastInDim S1x512 ![1] bcast_S512_S1x512_1 (iotaInDim S512 32 0)))
        (broadcastInDim S32x512 ![0, 1] bcast_S32x1_S32x512_0_1 (broadcastInDim S32x1 ![0] bcast_S32_S32x1_0 (tally d .eq))) (ix2 c k) = 1#1)
      ↔ k.val < countOf (want d) (c.val : ℤ) := by
    show IntOp.cmpi .slt _ _ = 1#1 ↔ _
    rw [column_apply, lanes_apply, count_apply, cmpi_slt_eq, ofBool_decide_eq_one_iff, toInt_ofNat_of_lt (by have := k.isLt; omega), toInt_ofNat_of_lt (by omega)]
    omega
  by_cases h : k.val < countOf (want d) (c.val : ℤ)
  · rw [if_pos (hlt.mpr h), if_pos h]
    have hpv := hp h
    refine (take_table_apply (ordered x d) _ c k l p ?_).trans (ordered_apply x d p l)
    rw [broadcastInDim_apply _ _ _ (ix3 c k 0 : S32x512x1.Idx) (ix2 c k : S32x512.Idx) (fun a => by match a with | ⟨0, _⟩ => rfl | ⟨1, _⟩ => rfl)]
    refine keep_nonneg bcast_S_S32x512 (slots d) (ix2 c k) (by have := p.isLt; omega) ?_
    rw [slots_apply d c k (by omega), hpv]
  · rw [if_neg (fun h' => h (hlt.mp h')), if_neg h]
    show Ideal.ofBits .f32 0x00000000#32 = 0
    exact Ideal.ofBits_zero_f32

/-- Where every rank is sent exactly 512 rows, each rank's rows begin at its block. -/
theorem first_balanced (h : ∀ e : Fin 32, countOf (want d) (e.val : ℤ) = 512) (e : Fin 32) : firstOf (want d) (e.val : ℤ) = e.val * 512 := by
  have hstep : ∀ n : ℕ, n + 1 < 32 → firstOf (want d) (n : ℤ) + 512 ≤ firstOf (want d) ((n + 1 : ℕ) : ℤ) := fun n hn => by
    rw [← h ⟨n, by omega⟩]
    exact first_add_count_le (want d) (by omega)
  have hlow : ∀ n : ℕ, n < 32 → n * 512 ≤ firstOf (want d) (n : ℤ) := by
    intro n
    induction n with
    | zero => intro _; omega
    | succ n ih => intro hn; have := ih (by omega); have := hstep n hn; omega
  have hhigh : ∀ j n : ℕ, n + j = 31 → firstOf (want d) (n : ℤ) + (j + 1) * 512 ≤ 16384 := by
    intro j
    induction j with
    | zero =>
      intro n hn
      have h1 := first_add_count_le_n (want d) (n : ℤ)
      rw [show (n : ℤ) = ((⟨n, by omega⟩ : Fin 32).val : ℤ) from rfl, h] at h1
      exact h1
    | succ j ih => intro n hn; have := ih (n + 1) (by omega); have := hstep n (by omega); omega
  have h1 := hlow e.val e.isLt
  have h2 := hhigh (31 - e.val) e.val (by have := e.isLt; omega)
  have := e.isLt
  omega

/-- Where every rank is sent exactly 512 rows, the result is all the rows in the order of their destinations. -/
theorem result_balanced (h : ∀ e : Fin 32, countOf (want d) (e.val : ℤ) = 512) : result x d = ordered x d := by
  funext i
  have hi : (i 0).val < 16384 := idx2_lt0 i
  have hf := first_balanced d h ⟨(i 0).val / 512, by omega⟩
  refine (congrArg (result x d) (ValueIdx.eq_ix2 i)).trans (Eq.trans ?_ (congrArg (ordered x d) (ValueIdx.eq_ix2 i)).symm)
  refine (result_apply x d ⟨(i 0).val / 512, by omega⟩ ⟨(i 0).val % 512, by omega⟩ (i 1) (i 0) ?_ (i 0) ?_).trans ?_
  · show (i 0).val = (i 0).val / 512 * 512 + (i 0).val % 512
    omega
  · intro _
    rw [hf]
    show (i 0).val = (i 0).val / 512 * 512 + (i 0).val % 512
    omega
  · rw [if_pos (by rw [h]; show (i 0).val % 512 < 512; omega)]
    exact (ordered_apply x d (i 0) (i 1)).symm

theorem reference_eq (m : (ℓ : Loc nD τ sig) → Buf (Elt Ideal) ℓ) (c : Dev nD) :
    Cert.ReferenceIdeal.Value.res_main_v45 (F := Ideal) m c
      = result (m ((c.tc : Thread nD τ).loc main_arg0)) (m ((c.tc : Thread nD τ).loc main_arg1)) := rfl

end Cert.Exchange.Plain
-- ==== Proof.Value.lean ====
/-
# The kernel computes the reference

Each device's result is its block of the reference's.
-/
module

public import proofs.«01_k».proof.Defs
public import proofs.«01_k».proof.Proof.Fits
public import proofs.«01_k».proof.Proof.Landed
public import proofs.«01_k».proof.Proof.RefValue

@[expose] public section

noncomputable section

namespace Cert.Exchange

open Cert.KernelIdeal Cert.KernelIdeal.Gen
open Idealize.ShloMosaic hiding ix0 ix1 ix2 ix3 ix4 addf_apply mulf_apply subf_apply constant_apply
open Idealize.ShloMosaic.ValueIdx Idealize.ShloMosaic.WordCmp
open Idealize.ShloMosaic.TcCoe Idealize.SL.Sem
open Finset

/-- The rows of the whole array, device by device. -/
def whole : Fin 32 × Fin 512 ≃ Fin 16384 := finProdFinEquiv
theorem whole_val (s : Fin 32) (r : Fin 512) : (whole (s, r)).val = s.val * 512 + r.val := by
  show r.val + 512 * s.val = _; omega

variable (m : (ℓ : Loc nD τ sig) → Buf (Elt Ideal) ℓ)

theorem dstOf_eq (c : Dev nD) : dstOf m c = m ((c : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _

theorem rowsOf_eq (c : Dev nD) : rowsOf m c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _

theorem finalA_o (ρ : Dev nD → PrngReg) (c : Dev nD) : finalA m ρ c (2 : Fin 3) = outAt m c := by
  have hz : (fun a => (win0_2.index (0 : Fin 1)) a * main_v1.ty.shape.size a) = fun _ => 0 := funext fun a => by fin_cases a <;> decide
  have h : (win0_2.blk (0 : Fin 1)).view.read (Elt Ideal) (finalA m ρ c (2 : Fin 3)) = outAt m c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt Ideal) main_v1 hz (fun a => by fin_cases a <;> decide) _).symm.trans h

variable (X : FVec Ideal Cert.ReferenceIdeal.S16384x256 .f32) (D : IVec Cert.ReferenceIdeal.S1x16384 32)

/-- Every device's rows and destinations are its block of the whole arrays. -/
def Agree : Prop := ∀ s : Fin 32, (∀ r : Fin 512, dest (dstOf m s) r = Plain.want D (whole (s, r)))
  ∧ ∀ (r : Fin 512) (l : Fin 256), rowsOf m s (ix2 r l) = X (ix2 (whole (s, r)) l)

/-- The sum over the whole array, device by device. -/
theorem sum_whole (ha : Agree m X D) (c : Dev nD) (k : Fin 512) (l : Fin 256) :
    (∑ g : Fin 16384, if Plain.want D g = (c.val : ℤ) ∧ placeOf (Plain.want D) g = k.val then (X (ix2 g l) : EReal) else 0)
      = ∑ s : Fin 32, ∑ r : Fin 512, if dest (dstOf m s) r = (c.val : ℤ)
          ∧ (∑ t : Fin 32, if t < s then countOf (dest (dstOf m t)) (c.val : ℤ) else 0) + placeOf (dest (dstOf m s)) r = k.val
          then (rowsOf m s (ix2 r l) : EReal) else 0 := by
  rw [← Equiv.sum_comp whole, Fintype.sum_prod_type]
  refine Finset.sum_congr rfl fun s _ => Finset.sum_congr rfl fun r _ => ?_
  have hd : ∀ t : Fin 32, dest (dstOf m t) = fun r' => Plain.want D (whole (t, r')) := fun t => funext (ha t).1
  rw [placeOf_block (Plain.want D) whole whole_val s r, (ha s).2 r l]
  simp only [hd]
  by_cases hc : Plain.want D (whole (s, r)) = (c.val : ℤ)
  · simp only [hc]
  · rw [if_neg (fun h => hc h.1), if_neg (fun h => hc h.1)]

/-- A device's result. -/
def outOf (c : Dev nD) : FVec Ideal S512x256 .f32 := outAt m c

/-- A row of a device's result as a sum over the whole array. -/
theorem outAt_whole (ha : Agree m X D) (hf : ∀ s, Fits (dstOf m s)) (c : Dev nD) (k : Fin 512) (l : Fin 256) :
    (outOf m c (ix2 k l) : EReal)
      = ∑ g : Fin 16384, if Plain.want D g = (c.val : ℤ) ∧ placeOf (Plain.want D) g = k.val then (X (ix2 g l) : EReal) else 0 := by
  refine Eq.trans (outAt_apply m hf c k l) (sum_whole m X D ha c k l).symm

theorem outAt_result (ha : Agree m X D) (hf : ∀ s, Fits (dstOf m s)) (c : Dev nD) (k : Fin 512) (l : Fin 256) (g : Fin 16384)
    (hg : g.val = c.val * 512 + k.val) :
    outOf m c (ix2 k l) = Plain.result X D (ix2 g l) := by
  rw [outAt_whole m X D ha hf c k l]
  have hle := first_add_count_le_n (Plain.want D) (c.val : ℤ)
  by_cases h : k.val < countOf (Plain.want D) (c.val : ℤ)
  · rw [sum_class (Plain.want D) (fun g => (X (ix2 g l) : EReal)) _ k.val ⟨firstOf (Plain.want D) (c.val : ℤ) + k.val, by omega⟩ h rfl,
      Plain.result_apply X D c k l g hg ⟨firstOf (Plain.want D) (c.val : ℤ) + k.val, by omega⟩ (fun _ => rfl), if_pos h]
  · rw [sum_class_none (Plain.want D) (fun g => (X (ix2 g l) : EReal)) _ k.val (by omega),
      Plain.result_apply X D c k l g hg 0 (fun h' => absurd h' h), if_neg h]

theorem algebraic : Cert.algebraic_KernelIdeal_ReferenceIdeal_pre_fits_KernelIdeal (hPre_fits_KernelIdeal := fits_facts) := by
  intro m ρ m' ρ' hpre hagree
  have ha : Agree m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) := by
    intro s
    constructor
    · intro r
      unfold dest Plain.want
      rw [dstOf_eq, (hagree s).2, Layout.block_apply]
      exact congrArg (fun i => BitVec.toInt (m' (((0 : Dev Cert.ReferenceIdeal.nD).tc : Thread Cert.ReferenceIdeal.nD Cert.ReferenceIdeal.τ).loc Cert.ReferenceIdeal.main_arg1) i))
        (Shape.idx_ext₂ rfl (whole_val s r).symm)
    · intro r l
      rw [rowsOf_eq, (hagree s).1, Layout.block_apply]
      exact congrArg (m' (((0 : Dev Cert.ReferenceIdeal.nD).tc : Thread Cert.ReferenceIdeal.nD Cert.ReferenceIdeal.τ).loc Cert.ReferenceIdeal.main_arg0))
        (Shape.idx_ext₂ (whole_val s r).symm rfl)
  have hf : ∀ s, Fits (dstOf m s) := by
    intro s
    rw [dstOf_eq]
    haveI := fits_facts
    exact fits_of _ _ (hpre s)
  refine ⟨Plain.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run defs _ _).mono
      (fun _ h c => ⟨(h.1 c (2 : Fin 3)).trans ((finalA_o m ρ c).trans ?_), (h.1 c (0 : Fin 3)).trans (finalA_x m ρ c), (h.1 c (1 : Fin 3)).trans (finalA_d m ρ c)⟩)
      (run_main (F := Ideal) m ρ)
    funext i
    rw [Layout.block_apply]
    refine (congrArg (outOf m c) (ValueIdx.eq_ix2 i)).trans ?_
    have hc := dlt c
    refine (outAt_result m _ _ ha hf c (i 0) (i 1) ⟨c.val * 512 + (i 0).val, by have := idx2_lt0 i; omega⟩ rfl).trans ?_
    exact congrArg (Plain.result _ _) (Shape.idx_ext₂ rfl rfl)
  · exact (θ_run Cert.ReferenceIdeal.defs _ _).mono (fun _ h => ⟨(h 0).1.trans (Plain.reference_eq m' 0), (h 0).2⟩)
      (Cert.ReferenceIdeal.Value.run (F := Ideal) m' ρ')

end Cert.Exchange

end
-- ==== Proof.lean ====
/-
# The proof of the certificate's claim
-/
module

public import proofs.«01_k».proof.Defs
public import proofs.«01_k».proof.Proof.Frames
public import proofs.«01_k».proof.Proof.Value

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Exchange.fits_facts, Cert.Exchange.fits_facts_whole,
  Cert.Exchange.frame_bits, Cert.Exchange.frame_ideal, (fun m g _ => Cert.Exchange.frame_ideal m g trivial),
  Cert.Exchange.frame_reference, (fun m g _ => Cert.Exchange.frame_reference m g trivial), trivial, Cert.Exchange.algebraic⟩

end Cert.Proof

end
